-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x8192 : Shape := ⟨3, ![1, 8192, 8192]⟩
abbrev S_ : Shape := ⟨0, ![]⟩
abbrev S1x8192x14336 : Shape := ⟨3, ![1, 8192, 14336]⟩
abbrev S8192x14336 : Shape := ⟨2, ![8192, 14336]⟩
abbrev S8192x8192 : Shape := ⟨2, ![8192, 8192]⟩
abbrev S8x128 : Shape := ⟨2, ![8, 128]⟩
abbrev S256x14336 : Shape := ⟨2, ![256, 14336]⟩
abbrev S16x14336 : Shape := ⟨2, ![16, 14336]⟩
abbrev S16x16x14336 : Shape := ⟨3, ![16, 16, 14336]⟩
abbrev S1x16x14336 : Shape := ⟨3, ![1, 16, 14336]⟩
abbrev S1 : Shape := ⟨1, ![1]⟩
abbrev S1x1x1 : Shape := ⟨3, ![1, 1, 1]⟩
abbrev S1x8x128 : Shape := ⟨3, ![1, 8, 128]⟩
abbrev S1x1 : Shape := ⟨2, ![1, 1]⟩
abbrev S8192x1024 : Shape := ⟨2, ![8192, 1024]⟩
abbrev S1024x1024 : Shape := ⟨2, ![1024, 1024]⟩

abbrev nBuf : Space → Nat
  | .hbm => 13
  | .vmem => 17
  | .smem => 3
  | _ => 0

abbrev bufTy : (tb : Table) → Fin (tcTables nBuf tb) → BufTy
  | .hbm, ⟨0, _⟩ => ⟨S1x8192x8192, .fp8e4m3⟩
  | .hbm, ⟨1, _⟩ => ⟨S_, .f32⟩
  | .hbm, ⟨2, _⟩ => ⟨S1x8192x14336, .bf16⟩
  | .hbm, ⟨3, _⟩ => ⟨S8192x14336, .f32⟩
  | .hbm, ⟨4, _⟩ => ⟨S8192x8192, .fp8e4m3⟩
  | .hbm, ⟨5, _⟩ => ⟨S8192x14336, .bf16⟩
  | .hbm, ⟨6, _⟩ => ⟨S8x128, .f32⟩
  | .hbm, ⟨7, _⟩ => ⟨S8x128, .f32⟩
  | .hbm, ⟨8, _⟩ => ⟨S1x1, .f32⟩
  | .hbm, ⟨9, _⟩ => ⟨S1x1, .f32⟩
  | .hbm, ⟨10, _⟩ => ⟨S8192x14336, .fp8e5m2⟩
  | .hbm, ⟨11, _⟩ => ⟨S1x1, .f32⟩
  | .hbm, ⟨12, _⟩ => ⟨S8192x14336, .f32⟩
  | .local _ .vmem, ⟨0, _⟩ => ⟨S256x14336, .bf16⟩
  | .local _ .vmem, ⟨1, _⟩ => ⟨S256x14336, .bf16⟩
  | .local _ .vmem, ⟨2, _⟩ => ⟨S8x128, .f32⟩
  | .local _ .vmem, ⟨3, _⟩ => ⟨S8x128, .f32⟩
  | .local _ .vmem, ⟨4, _⟩ => ⟨S16x14336, .bf16⟩
  | .local _ .vmem, ⟨5, _⟩ => ⟨S256x14336, .bf16⟩
  | .local _ .vmem, ⟨6, _⟩ => ⟨S256x14336, .bf16⟩
  | .local _ .vmem, ⟨7, _⟩ => ⟨S256x14336, .fp8e5m2⟩
  | .local _ .vmem, ⟨8, _⟩ => ⟨S256x14336, .fp8e5m2⟩
  | .local _ .vmem, ⟨9, _⟩ => ⟨S8192x1024, .fp8e4m3⟩
  | .local _ .vmem, ⟨10, _⟩ => ⟨S8192x1024, .fp8e4m3⟩
  | .local _ .vmem, ⟨11, _⟩ => ⟨S8192x1024, .fp8e5m2⟩
  | .local _ .vmem, ⟨12, _⟩ => ⟨S8192x1024, .fp8e5m2⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S1x8192x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg2_0 : Ref sig .tc := ⟨.vmem, 9, rfl⟩
abbrev cc2_stg2_1 : Ref sig .tc := ⟨.vmem, 10, rfl⟩
abbrev cc2_stg3_0 : Ref sig .tc := ⟨.vmem, 11, rfl⟩
abbrev cc2_stg3_1 : Ref sig .tc := ⟨.vmem, 12, rfl⟩
abbrev cc2_stg4_0 : Ref sig .tc := ⟨.vmem, 13, rfl⟩
abbrev cc2_stg4_1 : Ref sig .tc := ⟨.vmem, 14, rfl⟩
abbrev cc2_stg5_0 : Ref sig .tc := ⟨.vmem, 15, rfl⟩
abbrev cc2_stg5_1 : Ref sig .tc := ⟨.vmem, 16, rfl⟩
abbrev cc1_stg0_0 : Ref sig .tc := ⟨.smem, 0, rfl⟩
abbrev cc2_stg0_0 : Ref sig .tc := ⟨.smem, 1, rfl⟩
abbrev cc2_stg1_0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc2_sem0_0 : DmaSem sig := 9
abbrev cc2_sem1_0 : DmaSem sig := 10
abbrev cc2_sem2_0 : DmaSem sig := 11
abbrev cc2_sem2_1 : DmaSem sig := 12
abbrev cc2_sem3_0 : DmaSem sig := 13
abbrev cc2_sem3_1 : DmaSem sig := 14
abbrev cc2_sem4_0 : DmaSem sig := 15
abbrev cc2_sem4_1 : DmaSem sig := 16
abbrev cc2_sem5_0 : DmaSem sig := 17
abbrev cc2_sem5_1 : DmaSem sig := 18

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32 : BitVec 32 := 31#32
  let v11 : BitVec 1 := Scalar.cmpi .eq arg0 c31_i32
  let v12 : BitVec 32 := Scalar.extui v11
  let c0_i32_4 : BitVec 32 := 0#32
  let v13 : BitVec 1 := Scalar.cmpi .ne v12 c0_i32_4
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x14336 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x14336 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x14336 .fp8e5m2 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 14], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .smem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .smem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S8192x1024 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S8192x1024 .fp8e5m2 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1024x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== ReferenceIdeal.lean ====
abbrev S1x8192x8192 : Shape := ⟨3, ![1, 8192, 8192]⟩
abbrev S_ : Shape := ⟨0, ![]⟩
abbrev S1x8192x14336 : Shape := ⟨3, ![1, 8192, 14336]⟩
abbrev S8192x14336 : Shape := ⟨2, ![8192, 14336]⟩
abbrev S8192x8192 : Shape := ⟨2, ![8192, 8192]⟩
abbrev S1x1 : Shape := ⟨2, ![1, 1]⟩
abbrev S1 : Shape := ⟨1, ![1]⟩
abbrev S1x1x1 : Shape := ⟨3, ![1, 1, 1]⟩
abbrev S1x253 : Shape := ⟨2, ![1, 253]⟩

abbrev nBuf : Space → Nat
  | .hbm => 10
  | .vmem => 7
  | .smem => 0
  | _ => 0

abbrev bufTy : (tb : Table) → Fin (tcTables nBuf tb) → BufTy
  | .hbm, ⟨0, _⟩ => ⟨S1x8192x8192, .fp8e4m3⟩
  | .hbm, ⟨1, _⟩ => ⟨S_, .f32⟩
  | .hbm, ⟨2, _⟩ => ⟨S1x8192x14336, .bf16⟩
  | .hbm, ⟨3, _⟩ => ⟨S8192x14336, .f32⟩
  | .hbm, ⟨4, _⟩ => ⟨S8192x8192, .fp8e4m3⟩
  | .hbm, ⟨5, _⟩ => ⟨S1x1, .f32⟩
  | .hbm, ⟨6, _⟩ => ⟨S8192x14336, .bf16⟩
  | .hbm, ⟨7, _⟩ => ⟨S8192x14336, .f32⟩
  | .hbm, ⟨8, _⟩ => ⟨S8192x14336, .fp8e5m2⟩
  | .hbm, ⟨9, _⟩ => ⟨S1x1, .f32⟩
  | .local _ .vmem, ⟨0, _⟩ => ⟨S8192x8192, .fp8e4m3⟩
  | .local _ .vmem, ⟨1, _⟩ => ⟨S1x1, .f32⟩
  | .local _ .vmem, ⟨2, _⟩ => ⟨S8192x14336, .bf16⟩
  | .local _ .vmem, ⟨3, _⟩ => ⟨S8192x14336, .f32⟩
  | .local _ .vmem, ⟨4, _⟩ => ⟨S8192x14336, .f32⟩
  | .local _ .vmem, ⟨5, _⟩ => ⟨S8192x14336, .fp8e5m2⟩
  | .local _ .vmem, ⟨6, _⟩ => ⟨S1x1, .f32⟩
  | _, _ => ⟨S1x8192x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8192x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x14336 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x14336 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x14336 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x14336 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.AmaxBody.lean ====
/- The first call (amax and scale): its blocks, its branches, and its body in each of the three cases. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.RegionsLoop
public import Idealize.ShloMosaic.Lib.Pipeline.FrameSuffix
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the call begins
variable (V : (c : Dev nD) → (b : Ref sig .tc) → Buf (Elt F) ((c : Thread nD τ).loc b))

/-- The block of window `w`'s array at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of `dy` holds the block of the point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The first branch: the first point. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The second branch: the points after the first. -/
abbrev cond0_1 (i : grid0.Coords) : Prop := (Scalar.cmpi .ne (Scalar.extui (Scalar.cmpi .sgt (BitVec.ofNat 32 (i 0).val) 0#32)) 0#32) = 1#1
theorem hcond0_1 : ∀ t : Fin cfg0.N, cond0_1 (grid0.coords t) ↔ 1 ≤ t.val :=
  (by decide +kernel : ∀ t : Fin grid0.N, cond0_1 (grid0.coords t) ↔ 1 ≤ t.val)

/-- The third branch: the last point. -/
abbrev cond0_2 (i : grid0.Coords) : Prop := k0_cond3 i = 1#1
theorem hcond0_2 : ∀ t : Fin cfg0.N, cond0_2 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_2, k0_cond3, e0]
    word_cmp
   : ∀ t : Fin grid0.N, cond0_2 (grid0.coords t) ↔ t.val % 32 = 31)

theorem liveAt0_0 : ∀ t : Fin cfg0.N, cfg0.idle 0 (grid0.coords t) = false := fun _ => rfl
theorem idleAt0_1_A : ∀ t : Fin cfg0.N, cond0_0 (grid0.coords t) → ¬cond0_1 (grid0.coords t) → ¬cond0_2 (grid0.coords t) → cfg0.idle 1 (grid0.coords t) = true := by decide +kernel
theorem noFlush0_1_A : ∀ t : Fin cfg0.N, cond0_0 (grid0.coords t) → ¬cond0_1 (grid0.coords t) → ¬cond0_2 (grid0.coords t) → (cfg0.win 1).flush t = false := by decide +kernel
theorem idleAt0_1_B : ∀ t : Fin cfg0.N, ¬cond0_0 (grid0.coords t) → cond0_1 (grid0.coords t) → ¬cond0_2 (grid0.coords t) → cfg0.idle 1 (grid0.coords t) = true := by decide +kernel
theorem noFlush0_1_B : ∀ t : Fin cfg0.N, ¬cond0_0 (grid0.coords t) → cond0_1 (grid0.coords t) → ¬cond0_2 (grid0.coords t) → (cfg0.win 1).flush t = false := by decide +kernel
theorem liveAt0_1_C : ∀ t : Fin cfg0.N, ¬cond0_0 (grid0.coords t) → cond0_1 (grid0.coords t) → cond0_2 (grid0.coords t) → cfg0.idle 1 (grid0.coords t) = false := by decide +kernel
theorem idleAt0_2_A : ∀ t : Fin cfg0.N, cond0_0 (grid0.coords t) → ¬cond0_1 (grid0.coords t) → ¬cond0_2 (grid0.coords t) → cfg0.idle 2 (grid0.coords t) = true := by decide +kernel
theorem noFlush0_2_A : ∀ t : Fin cfg0.N, cond0_0 (grid0.coords t) → ¬cond0_1 (grid0.coords t) → ¬cond0_2 (grid0.coords t) → (cfg0.win 2).flush t = false := by decide +kernel
theorem idleAt0_2_B : ∀ t : Fin cfg0.N, ¬cond0_0 (grid0.coords t) → cond0_1 (grid0.coords t) → ¬cond0_2 (grid0.coords t) → cfg0.idle 2 (grid0.coords t) = true := by decide +kernel
theorem noFlush0_2_B : ∀ t : Fin cfg0.N, ¬cond0_0 (grid0.coords t) → cond0_1 (grid0.coords t) → ¬cond0_2 (grid0.coords t) → (cfg0.win 2).flush t = false := by decide +kernel
theorem liveAt0_2_C : ∀ t : Fin cfg0.N, ¬cond0_0 (grid0.coords t) → cond0_1 (grid0.coords t) → cond0_2 (grid0.coords t) → cfg0.idle 2 (grid0.coords t) = false := by decide +kernel

abbrev VO0_1 : View sig .tc .vmem S8x128 .f32 := (Memref.whole cc0_stg1_0 : Memref sig .tc .vmem S8x128 .f32).view
abbrev VO0_2 : View sig .tc .vmem S8x128 .f32 := (Memref.whole cc0_stg2_0 : Memref sig .tc .vmem S8x128 .f32).view
abbrev ms0_0 (t : Fin cfg0.N) : Memref sig .tc .vmem S256x14336 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
abbrev scM0_0 : Memref sig .tc .vmem S16x14336 .bf16 := Memref.whole cc0_scratch0
abbrev VS0_0 : View sig .tc .vmem S16x14336 .bf16 := scM0_0.view

/-- What the call may use and never does: the staging buffers of the other calls; and the generator register. -/
def rest0 (c : Dev nD) : sProp 𝕄 :=
  iprop(((∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f))
    ∗ (∃ r, prngReg c r))

/-- What the call may use besides the windows: the scratch at some contents and the generator register. -/
theorem PhiA0_eq (c : Dev nD) :
    (Pipeline.ΦA spec0 c : sProp 𝕄) = iprop((∃ d, owns (c : Thread nD τ) scM0_0 fullShare d) ∗ rest0 c) := by
  unfold Pipeline.ΦA; rw [scopedRest0_eq]
  refine Eq.trans (Idealize.SL.BI.Entails.antisymm Idealize.SL.BI.sep_assoc Idealize.SL.BI.sep_assoc') ?_
  simp only [scM0_0, owns_whole]; rfl

set_option maxHeartbeats 1000000 in
/-- The body at the first point: the pieces it stores, and that it stores them. -/
noncomputable def kernelRun0_A (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : cond0_0 i) (hc1 : ¬cond0_1 i) (hc2 : ¬cond0_2 i)
    (x0 : Vec F S256x14336 .bf16) :
    Σ' (L1 : List (View.Piece (Elt F) S8x128 .f32)), Σ' (L2 : List (View.Piece (Elt F) S8x128 .f32)), { LS0 : List (View.Piece (Elt F) S16x14336 .bf16) //
      ∀ (xi1 : Vec F S8x128 .f32) (xi2 : Vec F S8x128 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_amax_scale i arg1 harg1 arg2 harg2 arg3 harg3 arg4 harg4) K } := by
  refine ⟨[], [], ?_, fun xi1 xi2 E K => ?run⟩
  case run =>
    simp only [cc0_amax_scale_eq_skeleton]; unfold cc0_amax_scale_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- The body at a point between: the pieces it stores, and that it stores them. -/
noncomputable def kernelRun0_B (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : ¬cond0_0 i) (hc1 : cond0_1 i) (hc2 : ¬cond0_2 i)
    (x0 : Vec F S256x14336 .bf16) (xs0 : Vec F S16x14336 .bf16) :
    Σ' (L1 : List (View.Piece (Elt F) S8x128 .f32)), Σ' (L2 : List (View.Piece (Elt F) S8x128 .f32)), { LS0 : List (View.Piece (Elt F) S16x14336 .bf16) //
      ∀ (xi1 : Vec F S8x128 .f32) (xi2 : Vec F S8x128 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_amax_scale i arg1 harg1 arg2 harg2 arg3 harg3 arg4 harg4) K } := by
  refine ⟨[], [], ?_, fun xi1 xi2 E K => ?run⟩
  case run =>
    simp only [cc0_amax_scale_eq_skeleton]; unfold cc0_amax_scale_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- The body at the last point: the pieces it stores, and that it stores them. -/
noncomputable def kernelRun0_C (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) :
    Σ' (L1 : List (View.Piece (Elt F) S8x128 .f32)), Σ' (L2 : List (View.Piece (Elt F) S8x128 .f32)), { LS0 : List (View.Piece (Elt F) S16x14336 .bf16) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0_amax_scale i arg1 harg1 arg2 harg2 arg3 harg3 arg4 harg4) K } := by
  refine ⟨?_, ?_, ?_, fun E K => ?run⟩
  case run =>
    simp only [cc0_amax_scale_eq_skeleton]; unfold cc0_amax_scale_skel
    simp only [k0_part1_eq_skeleton]
    unfold owns
    iintro ⟨⟨%f0, %hf0, H0⟩, ⟨%d1, %f1, -, H1⟩, ⟨%d2, %f2, -, H2⟩, ⟨%fs0, %hfs0, HS0⟩, Hk⟩
    obtain rfl := harg1.eq_unread hf0; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    isplitl [H2]; · iexists _; iexact H2
    iexists _; iexact HS0

end Cert.Kernel.Run

end
-- ==== Proof.Kernel.Amax.lean ====
/- The first call: what the outputs and the scratch hold point by point, and that the body keeps to it. -/
module

public import proofs.«01_k».proof.Proof.Kernel.AmaxBody
public import Idealize.ShloMosaic.Lib.Claim

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the call begins
variable (V : (c : Dev nD) → (b : Ref sig .tc) → Buf (Elt F) ((c : Thread nD τ).loc b))

def out0_A_1 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : cond0_0 i) (hc1 : ¬cond0_1 i) (hc2 : ¬cond0_2 i)
    (x0 : Vec F S256x14336 .bf16) : Vec F S8x128 .f32 :=
  VO0_1.read (Elt F) (VO0_1.writes (Elt F) VO0_1.junk (kernelRun0_A c i arg1 harg1 arg2 harg2 arg3 harg3 arg4 harg4 hc0 hc1 hc2 x0).1)

def out0_A_2 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : cond0_0 i) (hc1 : ¬cond0_1 i) (hc2 : ¬cond0_2 i)
    (x0 : Vec F S256x14336 .bf16) : Vec F S8x128 .f32 :=
  VO0_2.read (Elt F) (VO0_2.writes (Elt F) VO0_2.junk (kernelRun0_A c i arg1 harg1 arg2 harg2 arg3 harg3 arg4 harg4 hc0 hc1 hc2 x0).2.1)

theorem scover0_A_0 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : cond0_0 i) (hc1 : ¬cond0_1 i) (hc2 : ¬cond0_2 i)
    (x0 : Vec F S256x14336 .bf16) (y : S16x14336.Idx) :
    ∃ pc ∈ (kernelRun0_A c i arg1 harg1 arg2 harg2 arg3 harg3 arg4 harg4 hc0 hc1 hc2 x0).2.2.1, y ∈ pc.1.set :=
  View.cover_of_tiledL (kernelRun0_A c i arg1 harg1 arg2 harg2 arg3 harg3 arg4 harg4 hc0 hc1 hc2 x0).2.2.1 S16x14336.size (by sl_kernel_rfl) y

def sout0_A_0 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : cond0_0 i) (hc1 : ¬cond0_1 i) (hc2 : ¬cond0_2 i)
    (x0 : Vec F S256x14336 .bf16) : Vec F S16x14336 .bf16 :=
  VS0_0.read (Elt F) (VS0_0.writes (Elt F) VS0_0.junk (kernelRun0_A c i arg1 harg1 arg2 harg2 arg3 harg3 arg4 harg4 hc0 hc1 hc2 x0).2.2.1)

def out0_B_1 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : ¬cond0_0 i) (hc1 : cond0_1 i) (hc2 : ¬cond0_2 i)
    (x0 : Vec F S256x14336 .bf16) (xs0 : Vec F S16x14336 .bf16) : Vec F S8x128 .f32 :=
  VO0_1.read (Elt F) (VO0_1.writes (Elt F) VO0_1.junk (kernelRun0_B c i arg1 harg1 arg2 harg2 arg3 harg3 arg4 harg4 hc0 hc1 hc2 x0 xs0).1)

def out0_B_2 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : ¬cond0_0 i) (hc1 : cond0_1 i) (hc2 : ¬cond0_2 i)
    (x0 : Vec F S256x14336 .bf16) (xs0 : Vec F S16x14336 .bf16) : Vec F S8x128 .f32 :=
  VO0_2.read (Elt F) (VO0_2.writes (Elt F) VO0_2.junk (kernelRun0_B c i arg1 harg1 arg2 harg2 arg3 harg3 arg4 harg4 hc0 hc1 hc2 x0 xs0).2.1)

theorem scover0_B_0 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : ¬cond0_0 i) (hc1 : cond0_1 i) (hc2 : ¬cond0_2 i)
    (x0 : Vec F S256x14336 .bf16) (xs0 : Vec F S16x14336 .bf16) (y : S16x14336.Idx) :
    ∃ pc ∈ (kernelRun0_B c i arg1 harg1 arg2 harg2 arg3 harg3 arg4 harg4 hc0 hc1 hc2 x0 xs0).2.2.1, y ∈ pc.1.set :=
  View.cover_of_tiledL (kernelRun0_B c i arg1 harg1 arg2 harg2 arg3 harg3 arg4 harg4 hc0 hc1 hc2 x0 xs0).2.2.1 S16x14336.size (by sl_kernel_rfl) y

def sout0_B_0 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : ¬cond0_0 i) (hc1 : cond0_1 i) (hc2 : ¬cond0_2 i)
    (x0 : Vec F S256x14336 .bf16) (xs0 : Vec F S16x14336 .bf16) : Vec F S16x14336 .bf16 :=
  VS0_0.read (Elt F) (VS0_0.writes (Elt F) VS0_0.junk (kernelRun0_B c i arg1 harg1 arg2 harg2 arg3 harg3 arg4 harg4 hc0 hc1 hc2 x0 xs0).2.2.1)

theorem cover0_C_1 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) (y : S8x128.Idx) :
    ∃ pc ∈ (kernelRun0_C c i arg1 harg1 arg2 harg2 arg3 harg3 arg4 harg4 hc0 hc1 hc2 x0 xs0).1, y ∈ pc.1.set :=
  View.cover_of_tiledL (kernelRun0_C c i arg1 harg1 arg2 harg2 arg3 harg3 arg4 harg4 hc0 hc1 hc2 x0 xs0).1 S8x128.size (by sl_kernel_rfl) y

def out0_C_1 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) : Vec F S8x128 .f32 :=
  VO0_1.read (Elt F) (VO0_1.writes (Elt F) VO0_1.junk (kernelRun0_C c i arg1 harg1 arg2 harg2 arg3 harg3 arg4 harg4 hc0 hc1 hc2 x0 xs0).1)

theorem cover0_C_2 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) (y : S8x128.Idx) :
    ∃ pc ∈ (kernelRun0_C c i arg1 harg1 arg2 harg2 arg3 harg3 arg4 harg4 hc0 hc1 hc2 x0 xs0).2.1, y ∈ pc.1.set :=
  View.cover_of_tiledL (kernelRun0_C c i arg1 harg1 arg2 harg2 arg3 harg3 arg4 harg4 hc0 hc1 hc2 x0 xs0).2.1 S8x128.size (by sl_kernel_rfl) y

def out0_C_2 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) : Vec F S8x128 .f32 :=
  VO0_2.read (Elt F) (VO0_2.writes (Elt F) VO0_2.junk (kernelRun0_C c i arg1 harg1 arg2 harg2 arg3 harg3 arg4 harg4 hc0 hc1 hc2 x0 xs0).2.1)

theorem scover0_C_0 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) (y : S16x14336.Idx) :
    ∃ pc ∈ (kernelRun0_C c i arg1 harg1 arg2 harg2 arg3 harg3 arg4 harg4 hc0 hc1 hc2 x0 xs0).2.2.1, y ∈ pc.1.set :=
  View.cover_of_tiledL (kernelRun0_C c i arg1 harg1 arg2 harg2 arg3 harg3 arg4 harg4 hc0 hc1 hc2 x0 xs0).2.2.1 S16x14336.size (by sl_kernel_rfl) y

def sout0_C_0 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) : Vec F S16x14336 .bf16 :=
  VS0_0.read (Elt F) (VS0_0.writes (Elt F) VS0_0.junk (kernelRun0_C c i arg1 harg1 arg2 harg2 arg3 harg3 arg4 harg4 hc0 hc1 hc2 x0 xs0).2.2.1)

/-- What the two outputs and the scratch hold after point `n`. -/
def outsAt0 (c : Dev nD) : (n : ℕ) → n < cfg0.N → Vec F S8x128 .f32 × Vec F S8x128 .f32 × Vec F S16x14336 .bf16
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩))
  | n + 1, hn =>
    if h0 : (n + 1) % 32 = 0 then
      if h1 : 1 ≤ (n + 1) then
        False.elim (by have hN : n + 1 < 32 := lt_of_lt_of_eq hn (show cfg0.N = 32 from N_0); omega)
      else
        if h2 : (n + 1) % 32 = 31 then
          False.elim (by have hN : n + 1 < 32 := lt_of_lt_of_eq hn (show cfg0.N = 32 from N_0); omega)
        else
          (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩))
    else
      if h1 : 1 ≤ (n + 1) then
        if h2 : (n + 1) % 32 = 31 then
          (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2)
        else
          (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2)
      else
        False.elim (by have hN : n + 1 < 32 := lt_of_lt_of_eq hn (show cfg0.N = 32 from N_0); omega)

theorem outsAt0_A (c : Dev nD) (t : Fin cfg0.N) (h0 : t.val % 32 = 0) (h1 : ¬1 ≤ t.val) (h2 : ¬t.val % 32 = 31) :
    outsAt0 V c t.val t.isLt = (out0_A_1 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t), out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t)) := by
  obtain ⟨n, hn⟩ := t
  cases n with
  | zero => exact rfl
  | succ n => exact (dif_pos h0).trans ((dif_neg h1).trans ((dif_neg h2).trans rfl))

theorem outsAt0_B (c : Dev nD) (t : Fin cfg0.N) (h0 : ¬t.val % 32 = 0) (h1 : 1 ≤ t.val) (h2 : ¬t.val % 32 = 31) :
    outsAt0 V c t.val t.isLt = (out0_B_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2, out0_B_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

theorem outsAt0_C (c : Dev nD) (t : Fin cfg0.N) (h0 : ¬t.val % 32 = 0) (h1 : 1 ≤ t.val) (h2 : t.val % 32 = 31) :
    outsAt0 V c t.val t.isLt = (out0_C_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2, out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The invariant before point `n`: from the second point on the scratch holds what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2)) ∗ rest0 c)

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2)) ∗ rest0 c) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2)) ∗ rest0 c) := by
  cases n with
  | zero => exact absurd rfl hz
  | succ n => rfl

/-- The call's arrays, what the body leaves in each window at each point, and the invariant. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d

/-- What the body starts from at point `t`. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- What the body ends with at point `t`. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body takes the one to the other, at every point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 32 = 0
  · by_cases h1 : 1 ≤ t.val
    · exfalso; omega
    · by_cases h2 : t.val % 32 = 31
      · exfalso; omega
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_A t ((hcond0_0 t).mpr h0) (fun h => h1 ((hcond0_1 t).mp h)) (fun h => h2 ((hcond0_2 t).mp h))) (noFlush0_1_A t ((hcond0_0 t).mpr h0) (fun h => h1 ((hcond0_1 t).mp h)) (fun h => h2 ((hcond0_2 t).mp h)))]
        rw [Dat.leavesExact_idle (dat0 V c) 2 t (idleAt0_2_A t ((hcond0_0 t).mpr h0) (fun h => h1 ((hcond0_1 t).mp h)) (fun h => h2 ((hcond0_2 t).mp h))) (noFlush0_2_A t ((hcond0_0 t).mpr h0) (fun h => h1 ((hcond0_1 t).mp h)) (fun h => h2 ((hcond0_2 t).mp h)))]
        by_cases hz : t.val = 0
        · rw [PhiS_castSucc V c t, PhiS_zero V c _ _ hz, PhiA0_eq]
          rw [outsAt0_A V c t h0 h1 h2]
          unfold sout0_A_0; (try dsimp only)
          iintro ⟨⟨HS0, Hg⟩, Ho, ⟨%d0, H0⟩, ⟨%d1, H1⟩, ⟨%d2, H2⟩⟩
          iapply ((kernelRun0_A c (grid0.coords t) _ _ _ _ _ _ _ _ ((hcond0_0 t).mpr h0) (fun h => h1 ((hcond0_1 t).mp h)) (fun h => h2 ((hcond0_2 t).mp h)) (iblk0 V c 0 t)).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _)
            iexact Hg
          isplitl [Ho]; · iexact Ho
          isplitl [H0]; · iexact H0
          isplitl [H1]; · iexists _; iexact H1
          iexists _; iexact H2
        · exfalso; have hN : t.val < 32 := lt_of_lt_of_eq t.isLt (show cfg0.N = 32 from N_0); omega
  · by_cases h1 : 1 ≤ t.val
    · by_cases h2 : t.val % 32 = 31
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1_C t (fun h => h0 ((hcond0_0 t).mp h)) ((hcond0_1 t).mpr h1) ((hcond0_2 t).mpr h2)], after0_1]
        rw [show (dat0 V c).leavesExact 2 t = owns (c : Thread nD τ) (ms0_2 t) fullShare ((dat0 V c).after 2 t) from by
      unfold Dat.leavesExact; rw [liveAt0_2_C t (fun h => h0 ((hcond0_0 t).mp h)) ((hcond0_1 t).mpr h1) ((hcond0_2 t).mpr h2)], after0_2]
        by_cases hz : t.val = 0
        · exfalso; have hN : t.val < 32 := lt_of_lt_of_eq t.isLt (show cfg0.N = 32 from N_0); omega
        · rw [PhiS_castSucc V c t, PhiS_pos V c _ _ hz]
          rw [outsAt0_C V c t h0 h1 h2]
          unfold out0_C_1 out0_C_2 sout0_C_0; (try dsimp only)
          iintro ⟨⟨HS0, Hg⟩, Ho, ⟨%d0, H0⟩, ⟨%d1, H1⟩, ⟨%d2, H2⟩⟩
          iapply ((kernelRun0_C c (grid0.coords t) _ _ _ _ _ _ _ _ (fun h => h0 ((hcond0_0 t).mp h)) ((hcond0_1 t).mpr h1) ((hcond0_2 t).mpr h2) (iblk0 V c 0 t) _).2.2.2 Set.univ _)
          isplitl [H0]; · iexact H0
          isplitl [H1]; · iexists _; iexact H1
          isplitl [H2]; · iexists _; iexact H2
          isplitl [HS0]; · iexact HS0
          iintro ⟨H0, ⟨%e1, H1⟩, ⟨%e2, H2⟩, ⟨%es0, HS0⟩⟩
          isplitl [HS0 Hg]
          · isplitl [HS0]
            · unfold owns; iexists _; isplitr
              swap; · iexact HS0
              ipureintro; exact View.read_writes_of_cover _ _ _ _ _ (scover0_C_0 c _ _ _ _ _ _ _ _ _ _ _ _ _ _)
            iexact Hg
          isplitl [Ho]; · iexact Ho
          isplitl [H0]; · iexact H0
          isplitl [H1]
          · unfold owns; iexists _; isplitr
            swap; · iexact H1
            ipureintro; exact View.read_writes_of_cover _ _ _ _ _ (cover0_C_1 c _ _ _ _ _ _ _ _ _ _ _ _ _ _)
          unfold owns; iexists _; isplitr
          swap; · iexact H2
          ipureintro; exact View.read_writes_of_cover _ _ _ _ _ (cover0_C_2 c _ _ _ _ _ _ _ _ _ _ _ _ _ _)
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_B t (fun h => h0 ((hcond0_0 t).mp h)) ((hcond0_1 t).mpr h1) (fun h => h2 ((hcond0_2 t).mp h))) (noFlush0_1_B t (fun h => h0 ((hcond0_0 t).mp h)) ((hcond0_1 t).mpr h1) (fun h => h2 ((hcond0_2 t).mp h)))]
        rw [Dat.leavesExact_idle (dat0 V c) 2 t (idleAt0_2_B t (fun h => h0 ((hcond0_0 t).mp h)) ((hcond0_1 t).mpr h1) (fun h => h2 ((hcond0_2 t).mp h))) (noFlush0_2_B t (fun h => h0 ((hcond0_0 t).mp h)) ((hcond0_1 t).mpr h1) (fun h => h2 ((hcond0_2 t).mp h)))]
        by_cases hz : t.val = 0
        · exfalso; have hN : t.val < 32 := lt_of_lt_of_eq t.isLt (show cfg0.N = 32 from N_0); omega
        · rw [PhiS_castSucc V c t, PhiS_pos V c _ _ hz]
          rw [outsAt0_B V c t h0 h1 h2]
          unfold sout0_B_0; (try dsimp only)
          iintro ⟨⟨HS0, Hg⟩, Ho, ⟨%d0, H0⟩, ⟨%d1, H1⟩, ⟨%d2, H2⟩⟩
          iapply ((kernelRun0_B c (grid0.coords t) _ _ _ _ _ _ _ _ (fun h => h0 ((hcond0_0 t).mp h)) ((hcond0_1 t).mpr h1) (fun h => h2 ((hcond0_2 t).mp h)) (iblk0 V c 0 t) _).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _)
            iexact Hg
          isplitl [Ho]; · iexact Ho
          isplitl [H0]; · iexact H0
          isplitl [H1]; · iexists _; iexact H1
          iexists _; iexact H2
    · exfalso; omega

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS0, Hg⟩
  isplitl [HS0]
  · iexists _; iexact HS0
  iexact Hg

theorem hout0 (c : Dev nD) : (dat0 V c).Φ (Fin.last cfg0.N) ⊢ Pipeline.ΦA spec0 c :=
  Phi_out0 V c _ (by rw [Fin.val_last]; have : cfg0.N = 32 := N_0; omega)

end Cert.Kernel.Run

end
-- ==== Proof.Kernel.Quantise.lean ====
/- The second call (quantise): what its body stores, at every point. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.RegionsLoop
public import Idealize.ShloMosaic.Lib.Pipeline.FrameSuffix
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the call begins
variable (V : (c : Dev nD) → (b : Ref sig .tc) → Buf (Elt F) ((c : Thread nD τ).loc b))

/-- The block of window `w`'s array at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev VO1_2 : View sig .tc .vmem S256x14336 .fp8e5m2 := (Memref.whole cc1_stg2_0 : Memref sig .tc .vmem S256x14336 .fp8e5m2).view
abbrev ms1_0 (t : Fin cfg1.N) : Memref sig .tc .smem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x14336 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x14336 .fp8e5m2 := win1_2.stage (cfg1.slots t 2)
abbrev hs1_2 (t : Fin cfg1.N) : (ms1_2 t).IsWhole := hstage1_2 ((cfg1.slots t 2).cast nbuf1_2)

set_option maxHeartbeats 1000000 in
/-- The body: the pieces it stores, and that it stores them. -/
noncomputable def kernelRun1_A (c : Dev nD) (i : grid1.Coords) (arg1 : Memref sig .tc .smem S1x1 .f32) (harg1 : arg1.IsWhole) (arg2 : Memref sig .tc .vmem S256x14336 .bf16) (harg2 : arg2.IsWhole) (arg3 : Memref sig .tc .vmem S256x14336 .fp8e5m2) (harg3 : arg3.IsWhole)
    (x0 : Vec F S1x1 .f32) (x1 : Vec F S256x14336 .bf16) :
    { L2 : List (View.Piece (Elt F) S256x14336 .fp8e5m2) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1_quantise i arg1 harg1 arg2 harg2 arg3 harg3) K } := by
  refine ⟨?_, fun E K => ?run⟩
  case run =>
    simp only [cc1_quantise_eq_skeleton]; unfold cc1_quantise_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

theorem cover1_A_2 (c : Dev nD) (i : grid1.Coords) (arg1 : Memref sig .tc .smem S1x1 .f32) (harg1 : arg1.IsWhole) (arg2 : Memref sig .tc .vmem S256x14336 .bf16) (harg2 : arg2.IsWhole) (arg3 : Memref sig .tc .vmem S256x14336 .fp8e5m2) (harg3 : arg3.IsWhole)
    (x0 : Vec F S1x1 .f32) (x1 : Vec F S256x14336 .bf16) (y : S256x14336.Idx) :
    ∃ pc ∈ (kernelRun1_A c i arg1 harg1 arg2 harg2 arg3 harg3 x0 x1).1, y ∈ pc.1.set :=
  View.cover_of_tiledL (kernelRun1_A c i arg1 harg1 arg2 harg2 arg3 harg3 x0 x1).1 S256x14336.size (by sl_kernel_rfl) y

/-- What the body leaves in the output window. -/
def out1_A_2 (c : Dev nD) (i : grid1.Coords) (arg1 : Memref sig .tc .smem S1x1 .f32) (harg1 : arg1.IsWhole) (arg2 : Memref sig .tc .vmem S256x14336 .bf16) (harg2 : arg2.IsWhole) (arg3 : Memref sig .tc .vmem S256x14336 .fp8e5m2) (harg3 : arg3.IsWhole)
    (x0 : Vec F S1x1 .f32) (x1 : Vec F S256x14336 .bf16) : Vec F S256x14336 .fp8e5m2 :=
  VO1_2.read (Elt F) (VO1_2.writes (Elt F) VO1_2.junk (kernelRun1_A c i arg1 harg1 arg2 harg2 arg3 harg3 x0 x1).1)

/-- The same at point `t`. -/
def outsAt1 (c : Dev nD) (t : Fin cfg1.N) : Vec F S256x14336 .fp8e5m2 :=
  out1_A_2 c (grid1.coords t) (ms1_0 t) (hs1_0 t) (ms1_1 t) (hs1_1 t) (ms1_2 t) (hs1_2 t) (iblk1 V c 0 t) (iblk1 V c 1 t)

/-- The call's arrays and what the body leaves in each window at each point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body starts from at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- What the body ends with at point `t`. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

/-- The body takes the one to the other, at every point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold outsAt1
  unfold out1_A_2
  iintro ⟨HΦ, Ho, ⟨%d0, H0⟩, ⟨%d1, H1⟩, ⟨%d2, H2⟩⟩
  iapply ((kernelRun1_A c (grid1.coords t) _ _ _ _ _ _ (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1_A_2 c _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Kernel.Run

end
-- ==== Proof.Kernel.Matmul.lean ====
/- The third call (the product): what its body stores, at every point. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.RegionsLoop
public import Idealize.ShloMosaic.Lib.Pipeline.FrameSuffix
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the call begins
variable (V : (c : Dev nD) → (b : Ref sig .tc) → Buf (Elt F) ((c : Thread nD τ).loc b))

/-- The block of window `w`'s array at point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev VO2_5 : View sig .tc .vmem S1024x1024 .f32 := (Memref.whole cc2_stg5_0 : Memref sig .tc .vmem S1024x1024 .f32).view
abbrev ms2_0 (t : Fin cfg2.N) : Memref sig .tc .smem S1x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .smem S1x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8192x1024 .fp8e4m3 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S8192x1024 .fp8e5m2 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x1024 .f32 := win2_5.stage (cfg2.slots t 5)
abbrev hs2_5 (t : Fin cfg2.N) : (ms2_5 t).IsWhole := hstage2_5 ((cfg2.slots t 5).cast nbuf2_5)

set_option maxHeartbeats 1000000 in
/-- The body: the pieces it stores, and that it stores them. -/
noncomputable def kernelRun2_A (c : Dev nD) (i : grid2.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x1024 .fp8e5m2) (harg5 : arg5.IsWhole) (arg6 : Memref sig .tc .vmem S1024x1024 .f32) (harg6 : arg6.IsWhole) (arg7 : Memref sig .tc .vmem S1024x1024 .f32) (harg7 : arg7.IsWhole)
    (x0 : Vec F S1x1 .f32) (x1 : Vec F S1x1 .f32) (x2 : Vec F S8192x1024 .fp8e4m3) (x3 : Vec F S8192x1024 .fp8e5m2) (x4 : Vec F S1024x1024 .f32) :
    { L5 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc2_dw_matmul i arg2 harg2 arg3 harg3 arg4 harg4 arg5 harg5 arg6 harg6 arg7 harg7) K } := by
  refine ⟨?_, fun E K => ?run⟩
  case run =>
    simp only [cc2_dw_matmul_eq_skeleton]; unfold cc2_dw_matmul_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

theorem cover2_A_5 (c : Dev nD) (i : grid2.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x1024 .fp8e5m2) (harg5 : arg5.IsWhole) (arg6 : Memref sig .tc .vmem S1024x1024 .f32) (harg6 : arg6.IsWhole) (arg7 : Memref sig .tc .vmem S1024x1024 .f32) (harg7 : arg7.IsWhole)
    (x0 : Vec F S1x1 .f32) (x1 : Vec F S1x1 .f32) (x2 : Vec F S8192x1024 .fp8e4m3) (x3 : Vec F S8192x1024 .fp8e5m2) (x4 : Vec F S1024x1024 .f32) (y : S1024x1024.Idx) :
    ∃ pc ∈ (kernelRun2_A c i arg2 harg2 arg3 harg3 arg4 harg4 arg5 harg5 arg6 harg6 arg7 harg7 x0 x1 x2 x3 x4).1, y ∈ pc.1.set :=
  View.cover_of_tiledL (kernelRun2_A c i arg2 harg2 arg3 harg3 arg4 harg4 arg5 harg5 arg6 harg6 arg7 harg7 x0 x1 x2 x3 x4).1 S1024x1024.size (by sl_kernel_rfl) y

/-- What the body leaves in the output window. -/
def out2_A_5 (c : Dev nD) (i : grid2.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x1024 .fp8e5m2) (harg5 : arg5.IsWhole) (arg6 : Memref sig .tc .vmem S1024x1024 .f32) (harg6 : arg6.IsWhole) (arg7 : Memref sig .tc .vmem S1024x1024 .f32) (harg7 : arg7.IsWhole)
    (x0 : Vec F S1x1 .f32) (x1 : Vec F S1x1 .f32) (x2 : Vec F S8192x1024 .fp8e4m3) (x3 : Vec F S8192x1024 .fp8e5m2) (x4 : Vec F S1024x1024 .f32) : Vec F S1024x1024 .f32 :=
  VO2_5.read (Elt F) (VO2_5.writes (Elt F) VO2_5.junk (kernelRun2_A c i arg2 harg2 arg3 harg3 arg4 harg4 arg5 harg5 arg6 harg6 arg7 harg7 x0 x1 x2 x3 x4).1)

/-- The same at point `t`. -/
def outsAt2 (c : Dev nD) (t : Fin cfg2.N) : Vec F S1024x1024 .f32 :=
  out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (iblk2 V c 0 t) (iblk2 V c 1 t) (iblk2 V c 2 t) (iblk2 V c 3 t) (iblk2 V c 4 t)

/-- The call's arrays and what the body leaves in each window at each point. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body starts from at point `t`. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- What the body ends with at point `t`. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

/-- The body takes the one to the other, at every point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  unfold outsAt2
  unfold out2_A_5
  iintro ⟨HΦ, Ho, ⟨%d0, H0⟩, ⟨%d1, H1⟩, ⟨%d2, H2⟩, ⟨%d3, H3⟩, ⟨%d4, H4⟩, ⟨%d5, H5⟩⟩
  iapply ((kernelRun2_A c (grid2.coords t) _ _ _ _ _ _ _ _ _ _ _ _ (iblk2 V c 0 t) (iblk2 V c 1 t) (iblk2 V c 2 t) (iblk2 V c 3 t) (iblk2 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover2_A_5 c _ _ _ _ _ _ _ _ _ _ _ _ _ _ _ _ _ _)

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.Kernel.Run

end
-- ==== Proof.Kernel.Main.lean ====
/- The three calls and the host operations between them, put together: the whole run and the frame. -/
module

public import proofs.«01_k».proof.Proof.Kernel.Amax
public import proofs.«01_k».proof.Proof.Kernel.Quantise
public import proofs.«01_k».proof.Proof.Kernel.Matmul
public import Idealize.ShloMosaic.Lib.Claim

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's arguments. -/
abbrev argRefs : List (Ref sig .tc) := [main_arg0, main_arg1, main_arg2, main_arg3]

theorem hostOps0_fresh : (hostOps0 : List (HloOp τ sig (Elt F))).Forall fun op => op.fresh = ∅ := by
  simp only [List.Forall]; repeat' constructor
/-- The buffers the host operations before call 0 write. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
/-- The buffers the host operations before call 1 write. -/
abbrev hostOps1_W : List (Ref sig .tc) := [main_v3, main_v4]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
/-- The buffers the host operations before call 2 write. -/
abbrev hostOps2_W : List (Ref sig .tc) := [main_v6]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

/-- The buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

/-- The buffers when call 0 begins. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- The buffers when call 0 is over: its arrays as it leaves them, the others as they were. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- What is none of the call's outputs stays as it was. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers when call 1 begins. -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- The buffers when call 1 is over: its arrays as it leaves them, the others as they were. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- What is none of the call's outputs stays as it was. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The buffers when call 2 begins. -/
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
abbrev V5 : (c : Dev nD) → (b : Ref sig .tc) → Buf (Elt F) ((c : Thread nD τ).loc b) := fun c b => W5 m ρ c b
/-- The buffers when call 2 is over: its arrays as it leaves them, the others as they were. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- What is none of the call's outputs stays as it was. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What goes along beside the buffers: the generator register, and that nothing is owed. -/
abbrev R (c : Dev nD) : sProp 𝕄 := iprop((∃ r, prngReg c r) ∗ ∃ W, owes (c : Thread nD τ) (0 : CellTallies nD τ sig Unit) W)
/-- Host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

set_option backward.isDefEq.respectTransparency.types false in
/-- Call 0 as a segment of the program: from the buffers `W1` to the buffers `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine BIBase.Entails.trans ?_ (hin0 (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of the program: from the buffers `W3` to the buffers `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment of the program: from the buffers `W5` to the buffers `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The whole run: every execution ends, each buffer at its contents in `W6`, every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- The frame: the arguments end as they were launched and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c _ (mem_uc main_arg0 (by decide))).trans (W6_args m ρ c main_arg0 (by decide)),
     (h.1 c _ (mem_uc main_arg1 (by decide))).trans (W6_args m ρ c main_arg1 (by decide)),
     (h.1 c _ (mem_uc main_arg2 (by decide))).trans (W6_args m ρ c main_arg2 (by decide)),
     (h.1 c _ (mem_uc main_arg3 (by decide))).trans (W6_args m ρ c main_arg3 (by decide))⟩, h.2⟩) (run_all m ρ)

end Cert.Kernel.Run

end
-- ==== Proof.KernelIdeal.AmaxBody.lean ====
/- The first call (amax and scale): its blocks, its branches, and its body in each of the three cases. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.RegionsLoop
public import Idealize.ShloMosaic.Lib.Pipeline.FrameSuffix
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the call begins
variable (V : (c : Dev nD) → (b : Ref sig .tc) → Buf (Elt F) ((c : Thread nD τ).loc b))

/-- The block of window `w`'s array at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of `dy` holds the block of the point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The first branch: the first point. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The second branch: the points after the first. -/
abbrev cond0_1 (i : grid0.Coords) : Prop := (Scalar.cmpi .ne (Scalar.extui (Scalar.cmpi .sgt (BitVec.ofNat 32 (i 0).val) 0#32)) 0#32) = 1#1
theorem hcond0_1 : ∀ t : Fin cfg0.N, cond0_1 (grid0.coords t) ↔ 1 ≤ t.val :=
  (by decide +kernel : ∀ t : Fin grid0.N, cond0_1 (grid0.coords t) ↔ 1 ≤ t.val)

/-- The third branch: the last point. -/
abbrev cond0_2 (i : grid0.Coords) : Prop := k0_cond3 i = 1#1
theorem hcond0_2 : ∀ t : Fin cfg0.N, cond0_2 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_2, k0_cond3, e0]
    word_cmp
   : ∀ t : Fin grid0.N, cond0_2 (grid0.coords t) ↔ t.val % 32 = 31)

theorem liveAt0_0 : ∀ t : Fin cfg0.N, cfg0.idle 0 (grid0.coords t) = false := fun _ => rfl
theorem idleAt0_1_A : ∀ t : Fin cfg0.N, cond0_0 (grid0.coords t) → ¬cond0_1 (grid0.coords t) → ¬cond0_2 (grid0.coords t) → cfg0.idle 1 (grid0.coords t) = true := by decide +kernel
theorem noFlush0_1_A : ∀ t : Fin cfg0.N, cond0_0 (grid0.coords t) → ¬cond0_1 (grid0.coords t) → ¬cond0_2 (grid0.coords t) → (cfg0.win 1).flush t = false := by decide +kernel
theorem idleAt0_1_B : ∀ t : Fin cfg0.N, ¬cond0_0 (grid0.coords t) → cond0_1 (grid0.coords t) → ¬cond0_2 (grid0.coords t) → cfg0.idle 1 (grid0.coords t) = true := by decide +kernel
theorem noFlush0_1_B : ∀ t : Fin cfg0.N, ¬cond0_0 (grid0.coords t) → cond0_1 (grid0.coords t) → ¬cond0_2 (grid0.coords t) → (cfg0.win 1).flush t = false := by decide +kernel
theorem liveAt0_1_C : ∀ t : Fin cfg0.N, ¬cond0_0 (grid0.coords t) → cond0_1 (grid0.coords t) → cond0_2 (grid0.coords t) → cfg0.idle 1 (grid0.coords t) = false := by decide +kernel
theorem idleAt0_2_A : ∀ t : Fin cfg0.N, cond0_0 (grid0.coords t) → ¬cond0_1 (grid0.coords t) → ¬cond0_2 (grid0.coords t) → cfg0.idle 2 (grid0.coords t) = true := by decide +kernel
theorem noFlush0_2_A : ∀ t : Fin cfg0.N, cond0_0 (grid0.coords t) → ¬cond0_1 (grid0.coords t) → ¬cond0_2 (grid0.coords t) → (cfg0.win 2).flush t = false := by decide +kernel
theorem idleAt0_2_B : ∀ t : Fin cfg0.N, ¬cond0_0 (grid0.coords t) → cond0_1 (grid0.coords t) → ¬cond0_2 (grid0.coords t) → cfg0.idle 2 (grid0.coords t) = true := by decide +kernel
theorem noFlush0_2_B : ∀ t : Fin cfg0.N, ¬cond0_0 (grid0.coords t) → cond0_1 (grid0.coords t) → ¬cond0_2 (grid0.coords t) → (cfg0.win 2).flush t = false := by decide +kernel
theorem liveAt0_2_C : ∀ t : Fin cfg0.N, ¬cond0_0 (grid0.coords t) → cond0_1 (grid0.coords t) → cond0_2 (grid0.coords t) → cfg0.idle 2 (grid0.coords t) = false := by decide +kernel

abbrev VO0_1 : View sig .tc .vmem S8x128 .f32 := (Memref.whole cc0_stg1_0 : Memref sig .tc .vmem S8x128 .f32).view
abbrev VO0_2 : View sig .tc .vmem S8x128 .f32 := (Memref.whole cc0_stg2_0 : Memref sig .tc .vmem S8x128 .f32).view
abbrev ms0_0 (t : Fin cfg0.N) : Memref sig .tc .vmem S256x14336 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
abbrev scM0_0 : Memref sig .tc .vmem S16x14336 .bf16 := Memref.whole cc0_scratch0
abbrev VS0_0 : View sig .tc .vmem S16x14336 .bf16 := scM0_0.view

/-- What the call may use and never does: the staging buffers of the other calls; and the generator register. -/
def rest0 (c : Dev nD) : sProp 𝕄 :=
  iprop(((∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f))
    ∗ (∃ r, prngReg c r))

/-- What the call may use besides the windows: the scratch at some contents and the generator register. -/
theorem PhiA0_eq (c : Dev nD) :
    (Pipeline.ΦA spec0 c : sProp 𝕄) = iprop((∃ d, owns (c : Thread nD τ) scM0_0 fullShare d) ∗ rest0 c) := by
  unfold Pipeline.ΦA; rw [scopedRest0_eq]
  refine Eq.trans (Idealize.SL.BI.Entails.antisymm Idealize.SL.BI.sep_assoc Idealize.SL.BI.sep_assoc') ?_
  simp only [scM0_0, owns_whole]; rfl

set_option maxHeartbeats 1000000 in
/-- The body at the first point: the pieces it stores, and that it stores them. -/
noncomputable def kernelRun0_A (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : cond0_0 i) (hc1 : ¬cond0_1 i) (hc2 : ¬cond0_2 i)
    (x0 : Vec F S256x14336 .bf16) :
    Σ' (L1 : List (View.Piece (Elt F) S8x128 .f32)), Σ' (L2 : List (View.Piece (Elt F) S8x128 .f32)), { LS0 : List (View.Piece (Elt F) S16x14336 .bf16) //
      ∀ (xi1 : Vec F S8x128 .f32) (xi2 : Vec F S8x128 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_amax_scale i arg1 harg1 arg2 harg2 arg3 harg3 arg4 harg4) K } := by
  refine ⟨[], [], ?_, fun xi1 xi2 E K => ?run⟩
  case run =>
    simp only [cc0_amax_scale_eq_skeleton]; unfold cc0_amax_scale_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- The body at a point between: the pieces it stores, and that it stores them. -/
noncomputable def kernelRun0_B (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : ¬cond0_0 i) (hc1 : cond0_1 i) (hc2 : ¬cond0_2 i)
    (x0 : Vec F S256x14336 .bf16) (xs0 : Vec F S16x14336 .bf16) :
    Σ' (L1 : List (View.Piece (Elt F) S8x128 .f32)), Σ' (L2 : List (View.Piece (Elt F) S8x128 .f32)), { LS0 : List (View.Piece (Elt F) S16x14336 .bf16) //
      ∀ (xi1 : Vec F S8x128 .f32) (xi2 : Vec F S8x128 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_amax_scale i arg1 harg1 arg2 harg2 arg3 harg3 arg4 harg4) K } := by
  refine ⟨[], [], ?_, fun xi1 xi2 E K => ?run⟩
  case run =>
    simp only [cc0_amax_scale_eq_skeleton]; unfold cc0_amax_scale_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- The body at the last point: the pieces it stores, and that it stores them. -/
noncomputable def kernelRun0_C (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) :
    Σ' (L1 : List (View.Piece (Elt F) S8x128 .f32)), Σ' (L2 : List (View.Piece (Elt F) S8x128 .f32)), { LS0 : List (View.Piece (Elt F) S16x14336 .bf16) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0_amax_scale i arg1 harg1 arg2 harg2 arg3 harg3 arg4 harg4) K } := by
  refine ⟨?_, ?_, ?_, fun E K => ?run⟩
  case run =>
    simp only [cc0_amax_scale_eq_skeleton]; unfold cc0_amax_scale_skel
    simp only [k0_part1_eq_skeleton]
    unfold owns
    iintro ⟨⟨%f0, %hf0, H0⟩, ⟨%d1, %f1, -, H1⟩, ⟨%d2, %f2, -, H2⟩, ⟨%fs0, %hfs0, HS0⟩, Hk⟩
    obtain rfl := harg1.eq_unread hf0; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    isplitl [H2]; · iexists _; iexact H2
    iexists _; iexact HS0

end Cert.KernelIdeal.Run

end
-- ==== Proof.KernelIdeal.Amax.lean ====
/- The first call: what the outputs and the scratch hold point by point, and that the body keeps to it. -/
module

public import proofs.«01_k».proof.Proof.KernelIdeal.AmaxBody
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the call begins
variable (V : (c : Dev nD) → (b : Ref sig .tc) → Buf (Elt F) ((c : Thread nD τ).loc b))

def out0_A_1 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : cond0_0 i) (hc1 : ¬cond0_1 i) (hc2 : ¬cond0_2 i)
    (x0 : Vec F S256x14336 .bf16) : Vec F S8x128 .f32 :=
  VO0_1.read (Elt F) (VO0_1.writes (Elt F) VO0_1.junk (kernelRun0_A c i arg1 harg1 arg2 harg2 arg3 harg3 arg4 harg4 hc0 hc1 hc2 x0).1)

def out0_A_2 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : cond0_0 i) (hc1 : ¬cond0_1 i) (hc2 : ¬cond0_2 i)
    (x0 : Vec F S256x14336 .bf16) : Vec F S8x128 .f32 :=
  VO0_2.read (Elt F) (VO0_2.writes (Elt F) VO0_2.junk (kernelRun0_A c i arg1 harg1 arg2 harg2 arg3 harg3 arg4 harg4 hc0 hc1 hc2 x0).2.1)

theorem scover0_A_0 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : cond0_0 i) (hc1 : ¬cond0_1 i) (hc2 : ¬cond0_2 i)
    (x0 : Vec F S256x14336 .bf16) (y : S16x14336.Idx) :
    ∃ pc ∈ (kernelRun0_A c i arg1 harg1 arg2 harg2 arg3 harg3 arg4 harg4 hc0 hc1 hc2 x0).2.2.1, y ∈ pc.1.set :=
  View.cover_of_tiledL (kernelRun0_A c i arg1 harg1 arg2 harg2 arg3 harg3 arg4 harg4 hc0 hc1 hc2 x0).2.2.1 S16x14336.size (by sl_kernel_rfl) y

def sout0_A_0 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : cond0_0 i) (hc1 : ¬cond0_1 i) (hc2 : ¬cond0_2 i)
    (x0 : Vec F S256x14336 .bf16) : Vec F S16x14336 .bf16 :=
  VS0_0.read (Elt F) (VS0_0.writes (Elt F) VS0_0.junk (kernelRun0_A c i arg1 harg1 arg2 harg2 arg3 harg3 arg4 harg4 hc0 hc1 hc2 x0).2.2.1)

def out0_B_1 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : ¬cond0_0 i) (hc1 : cond0_1 i) (hc2 : ¬cond0_2 i)
    (x0 : Vec F S256x14336 .bf16) (xs0 : Vec F S16x14336 .bf16) : Vec F S8x128 .f32 :=
  VO0_1.read (Elt F) (VO0_1.writes (Elt F) VO0_1.junk (kernelRun0_B c i arg1 harg1 arg2 harg2 arg3 harg3 arg4 harg4 hc0 hc1 hc2 x0 xs0).1)

def out0_B_2 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : ¬cond0_0 i) (hc1 : cond0_1 i) (hc2 : ¬cond0_2 i)
    (x0 : Vec F S256x14336 .bf16) (xs0 : Vec F S16x14336 .bf16) : Vec F S8x128 .f32 :=
  VO0_2.read (Elt F) (VO0_2.writes (Elt F) VO0_2.junk (kernelRun0_B c i arg1 harg1 arg2 harg2 arg3 harg3 arg4 harg4 hc0 hc1 hc2 x0 xs0).2.1)

theorem scover0_B_0 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : ¬cond0_0 i) (hc1 : cond0_1 i) (hc2 : ¬cond0_2 i)
    (x0 : Vec F S256x14336 .bf16) (xs0 : Vec F S16x14336 .bf16) (y : S16x14336.Idx) :
    ∃ pc ∈ (kernelRun0_B c i arg1 harg1 arg2 harg2 arg3 harg3 arg4 harg4 hc0 hc1 hc2 x0 xs0).2.2.1, y ∈ pc.1.set :=
  View.cover_of_tiledL (kernelRun0_B c i arg1 harg1 arg2 harg2 arg3 harg3 arg4 harg4 hc0 hc1 hc2 x0 xs0).2.2.1 S16x14336.size (by sl_kernel_rfl) y

def sout0_B_0 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : ¬cond0_0 i) (hc1 : cond0_1 i) (hc2 : ¬cond0_2 i)
    (x0 : Vec F S256x14336 .bf16) (xs0 : Vec F S16x14336 .bf16) : Vec F S16x14336 .bf16 :=
  VS0_0.read (Elt F) (VS0_0.writes (Elt F) VS0_0.junk (kernelRun0_B c i arg1 harg1 arg2 harg2 arg3 harg3 arg4 harg4 hc0 hc1 hc2 x0 xs0).2.2.1)

theorem cover0_C_1 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) (y : S8x128.Idx) :
    ∃ pc ∈ (kernelRun0_C c i arg1 harg1 arg2 harg2 arg3 harg3 arg4 harg4 hc0 hc1 hc2 x0 xs0).1, y ∈ pc.1.set :=
  View.cover_of_tiledL (kernelRun0_C c i arg1 harg1 arg2 harg2 arg3 harg3 arg4 harg4 hc0 hc1 hc2 x0 xs0).1 S8x128.size (by sl_kernel_rfl) y

def out0_C_1 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) : Vec F S8x128 .f32 :=
  VO0_1.read (Elt F) (VO0_1.writes (Elt F) VO0_1.junk (kernelRun0_C c i arg1 harg1 arg2 harg2 arg3 harg3 arg4 harg4 hc0 hc1 hc2 x0 xs0).1)

theorem cover0_C_2 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) (y : S8x128.Idx) :
    ∃ pc ∈ (kernelRun0_C c i arg1 harg1 arg2 harg2 arg3 harg3 arg4 harg4 hc0 hc1 hc2 x0 xs0).2.1, y ∈ pc.1.set :=
  View.cover_of_tiledL (kernelRun0_C c i arg1 harg1 arg2 harg2 arg3 harg3 arg4 harg4 hc0 hc1 hc2 x0 xs0).2.1 S8x128.size (by sl_kernel_rfl) y

def out0_C_2 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) : Vec F S8x128 .f32 :=
  VO0_2.read (Elt F) (VO0_2.writes (Elt F) VO0_2.junk (kernelRun0_C c i arg1 harg1 arg2 harg2 arg3 harg3 arg4 harg4 hc0 hc1 hc2 x0 xs0).2.1)

theorem scover0_C_0 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) (y : S16x14336.Idx) :
    ∃ pc ∈ (kernelRun0_C c i arg1 harg1 arg2 harg2 arg3 harg3 arg4 harg4 hc0 hc1 hc2 x0 xs0).2.2.1, y ∈ pc.1.set :=
  View.cover_of_tiledL (kernelRun0_C c i arg1 harg1 arg2 harg2 arg3 harg3 arg4 harg4 hc0 hc1 hc2 x0 xs0).2.2.1 S16x14336.size (by sl_kernel_rfl) y

def sout0_C_0 (c : Dev nD) (i : grid0.Coords) (arg1 : Memref sig .tc .vmem S256x14336 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x14336 .bf16) (harg4 : arg4.IsWhole) (hc0 : ¬cond0_0 i) (hc1 : cond0_1 i) (hc2 : cond0_2 i)
    (x0 : Vec F S256x14336 .bf16) (xs0 : Vec F S16x14336 .bf16) : Vec F S16x14336 .bf16 :=
  VS0_0.read (Elt F) (VS0_0.writes (Elt F) VS0_0.junk (kernelRun0_C c i arg1 harg1 arg2 harg2 arg3 harg3 arg4 harg4 hc0 hc1 hc2 x0 xs0).2.2.1)

/-- What the two outputs and the scratch hold after point `n`. -/
def outsAt0 (c : Dev nD) : (n : ℕ) → n < cfg0.N → Vec F S8x128 .f32 × Vec F S8x128 .f32 × Vec F S16x14336 .bf16
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩))
  | n + 1, hn =>
    if h0 : (n + 1) % 32 = 0 then
      if h1 : 1 ≤ (n + 1) then
        False.elim (by have hN : n + 1 < 32 := lt_of_lt_of_eq hn (show cfg0.N = 32 from N_0); omega)
      else
        if h2 : (n + 1) % 32 = 31 then
          False.elim (by have hN : n + 1 < 32 := lt_of_lt_of_eq hn (show cfg0.N = 32 from N_0); omega)
        else
          (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩))
    else
      if h1 : 1 ≤ (n + 1) then
        if h2 : (n + 1) % 32 = 31 then
          (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2)
        else
          (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2)
      else
        False.elim (by have hN : n + 1 < 32 := lt_of_lt_of_eq hn (show cfg0.N = 32 from N_0); omega)

theorem outsAt0_A (c : Dev nD) (t : Fin cfg0.N) (h0 : t.val % 32 = 0) (h1 : ¬1 ≤ t.val) (h2 : ¬t.val % 32 = 31) :
    outsAt0 V c t.val t.isLt = (out0_A_1 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t), out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t)) := by
  obtain ⟨n, hn⟩ := t
  cases n with
  | zero => exact rfl
  | succ n => exact (dif_pos h0).trans ((dif_neg h1).trans ((dif_neg h2).trans rfl))

theorem outsAt0_B (c : Dev nD) (t : Fin cfg0.N) (h0 : ¬t.val % 32 = 0) (h1 : 1 ≤ t.val) (h2 : ¬t.val % 32 = 31) :
    outsAt0 V c t.val t.isLt = (out0_B_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2, out0_B_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

theorem outsAt0_C (c : Dev nD) (t : Fin cfg0.N) (h0 : ¬t.val % 32 = 0) (h1 : 1 ≤ t.val) (h2 : t.val % 32 = 31) :
    outsAt0 V c t.val t.isLt = (out0_C_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2, out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The invariant before point `n`: from the second point on the scratch holds what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2)) ∗ rest0 c)

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2)) ∗ rest0 c) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2)) ∗ rest0 c) := by
  cases n with
  | zero => exact absurd rfl hz
  | succ n => rfl

/-- The call's arrays, what the body leaves in each window at each point, and the invariant. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d

/-- What the body starts from at point `t`. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- What the body ends with at point `t`. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body takes the one to the other, at every point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 32 = 0
  · by_cases h1 : 1 ≤ t.val
    · exfalso; omega
    · by_cases h2 : t.val % 32 = 31
      · exfalso; omega
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_A t ((hcond0_0 t).mpr h0) (fun h => h1 ((hcond0_1 t).mp h)) (fun h => h2 ((hcond0_2 t).mp h))) (noFlush0_1_A t ((hcond0_0 t).mpr h0) (fun h => h1 ((hcond0_1 t).mp h)) (fun h => h2 ((hcond0_2 t).mp h)))]
        rw [Dat.leavesExact_idle (dat0 V c) 2 t (idleAt0_2_A t ((hcond0_0 t).mpr h0) (fun h => h1 ((hcond0_1 t).mp h)) (fun h => h2 ((hcond0_2 t).mp h))) (noFlush0_2_A t ((hcond0_0 t).mpr h0) (fun h => h1 ((hcond0_1 t).mp h)) (fun h => h2 ((hcond0_2 t).mp h)))]
        by_cases hz : t.val = 0
        · rw [PhiS_castSucc V c t, PhiS_zero V c _ _ hz, PhiA0_eq]
          rw [outsAt0_A V c t h0 h1 h2]
          unfold sout0_A_0; (try dsimp only)
          iintro ⟨⟨HS0, Hg⟩, Ho, ⟨%d0, H0⟩, ⟨%d1, H1⟩, ⟨%d2, H2⟩⟩
          iapply ((kernelRun0_A c (grid0.coords t) _ _ _ _ _ _ _ _ ((hcond0_0 t).mpr h0) (fun h => h1 ((hcond0_1 t).mp h)) (fun h => h2 ((hcond0_2 t).mp h)) (iblk0 V c 0 t)).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _)
            iexact Hg
          isplitl [Ho]; · iexact Ho
          isplitl [H0]; · iexact H0
          isplitl [H1]; · iexists _; iexact H1
          iexists _; iexact H2
        · exfalso; have hN : t.val < 32 := lt_of_lt_of_eq t.isLt (show cfg0.N = 32 from N_0); omega
  · by_cases h1 : 1 ≤ t.val
    · by_cases h2 : t.val % 32 = 31
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1_C t (fun h => h0 ((hcond0_0 t).mp h)) ((hcond0_1 t).mpr h1) ((hcond0_2 t).mpr h2)], after0_1]
        rw [show (dat0 V c).leavesExact 2 t = owns (c : Thread nD τ) (ms0_2 t) fullShare ((dat0 V c).after 2 t) from by
      unfold Dat.leavesExact; rw [liveAt0_2_C t (fun h => h0 ((hcond0_0 t).mp h)) ((hcond0_1 t).mpr h1) ((hcond0_2 t).mpr h2)], after0_2]
        by_cases hz : t.val = 0
        · exfalso; have hN : t.val < 32 := lt_of_lt_of_eq t.isLt (show cfg0.N = 32 from N_0); omega
        · rw [PhiS_castSucc V c t, PhiS_pos V c _ _ hz]
          rw [outsAt0_C V c t h0 h1 h2]
          unfold out0_C_1 out0_C_2 sout0_C_0; (try dsimp only)
          iintro ⟨⟨HS0, Hg⟩, Ho, ⟨%d0, H0⟩, ⟨%d1, H1⟩, ⟨%d2, H2⟩⟩
          iapply ((kernelRun0_C c (grid0.coords t) _ _ _ _ _ _ _ _ (fun h => h0 ((hcond0_0 t).mp h)) ((hcond0_1 t).mpr h1) ((hcond0_2 t).mpr h2) (iblk0 V c 0 t) _).2.2.2 Set.univ _)
          isplitl [H0]; · iexact H0
          isplitl [H1]; · iexists _; iexact H1
          isplitl [H2]; · iexists _; iexact H2
          isplitl [HS0]; · iexact HS0
          iintro ⟨H0, ⟨%e1, H1⟩, ⟨%e2, H2⟩, ⟨%es0, HS0⟩⟩
          isplitl [HS0 Hg]
          · isplitl [HS0]
            · unfold owns; iexists _; isplitr
              swap; · iexact HS0
              ipureintro; exact View.read_writes_of_cover _ _ _ _ _ (scover0_C_0 c _ _ _ _ _ _ _ _ _ _ _ _ _ _)
            iexact Hg
          isplitl [Ho]; · iexact Ho
          isplitl [H0]; · iexact H0
          isplitl [H1]
          · unfold owns; iexists _; isplitr
            swap; · iexact H1
            ipureintro; exact View.read_writes_of_cover _ _ _ _ _ (cover0_C_1 c _ _ _ _ _ _ _ _ _ _ _ _ _ _)
          unfold owns; iexists _; isplitr
          swap; · iexact H2
          ipureintro; exact View.read_writes_of_cover _ _ _ _ _ (cover0_C_2 c _ _ _ _ _ _ _ _ _ _ _ _ _ _)
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_B t (fun h => h0 ((hcond0_0 t).mp h)) ((hcond0_1 t).mpr h1) (fun h => h2 ((hcond0_2 t).mp h))) (noFlush0_1_B t (fun h => h0 ((hcond0_0 t).mp h)) ((hcond0_1 t).mpr h1) (fun h => h2 ((hcond0_2 t).mp h)))]
        rw [Dat.leavesExact_idle (dat0 V c) 2 t (idleAt0_2_B t (fun h => h0 ((hcond0_0 t).mp h)) ((hcond0_1 t).mpr h1) (fun h => h2 ((hcond0_2 t).mp h))) (noFlush0_2_B t (fun h => h0 ((hcond0_0 t).mp h)) ((hcond0_1 t).mpr h1) (fun h => h2 ((hcond0_2 t).mp h)))]
        by_cases hz : t.val = 0
        · exfalso; have hN : t.val < 32 := lt_of_lt_of_eq t.isLt (show cfg0.N = 32 from N_0); omega
        · rw [PhiS_castSucc V c t, PhiS_pos V c _ _ hz]
          rw [outsAt0_B V c t h0 h1 h2]
          unfold sout0_B_0; (try dsimp only)
          iintro ⟨⟨HS0, Hg⟩, Ho, ⟨%d0, H0⟩, ⟨%d1, H1⟩, ⟨%d2, H2⟩⟩
          iapply ((kernelRun0_B c (grid0.coords t) _ _ _ _ _ _ _ _ (fun h => h0 ((hcond0_0 t).mp h)) ((hcond0_1 t).mpr h1) (fun h => h2 ((hcond0_2 t).mp h)) (iblk0 V c 0 t) _).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _)
            iexact Hg
          isplitl [Ho]; · iexact Ho
          isplitl [H0]; · iexact H0
          isplitl [H1]; · iexists _; iexact H1
          iexists _; iexact H2
    · exfalso; omega

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS0, Hg⟩
  isplitl [HS0]
  · iexists _; iexact HS0
  iexact Hg

theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Run

end
-- ==== Proof.KernelIdeal.Quantise.lean ====
/- The second call (quantise): what its body stores, at every point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.RegionsLoop
public import Idealize.ShloMosaic.Lib.Pipeline.FrameSuffix
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the call begins
variable (V : (c : Dev nD) → (b : Ref sig .tc) → Buf (Elt F) ((c : Thread nD τ).loc b))

/-- The block of window `w`'s array at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev VO1_2 : View sig .tc .vmem S256x14336 .fp8e5m2 := (Memref.whole cc1_stg2_0 : Memref sig .tc .vmem S256x14336 .fp8e5m2).view
abbrev ms1_0 (t : Fin cfg1.N) : Memref sig .tc .smem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x14336 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x14336 .fp8e5m2 := win1_2.stage (cfg1.slots t 2)
abbrev hs1_2 (t : Fin cfg1.N) : (ms1_2 t).IsWhole := hstage1_2 ((cfg1.slots t 2).cast nbuf1_2)

set_option maxHeartbeats 1000000 in
/-- The body: the pieces it stores, and that it stores them. -/
noncomputable def kernelRun1_A (c : Dev nD) (i : grid1.Coords) (arg1 : Memref sig .tc .smem S1x1 .f32) (harg1 : arg1.IsWhole) (arg2 : Memref sig .tc .vmem S256x14336 .bf16) (harg2 : arg2.IsWhole) (arg3 : Memref sig .tc .vmem S256x14336 .fp8e5m2) (harg3 : arg3.IsWhole)
    (x0 : Vec F S1x1 .f32) (x1 : Vec F S256x14336 .bf16) :
    { L2 : List (View.Piece (Elt F) S256x14336 .fp8e5m2) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1_quantise i arg1 harg1 arg2 harg2 arg3 harg3) K } := by
  refine ⟨?_, fun E K => ?run⟩
  case run =>
    simp only [cc1_quantise_eq_skeleton]; unfold cc1_quantise_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

theorem cover1_A_2 (c : Dev nD) (i : grid1.Coords) (arg1 : Memref sig .tc .smem S1x1 .f32) (harg1 : arg1.IsWhole) (arg2 : Memref sig .tc .vmem S256x14336 .bf16) (harg2 : arg2.IsWhole) (arg3 : Memref sig .tc .vmem S256x14336 .fp8e5m2) (harg3 : arg3.IsWhole)
    (x0 : Vec F S1x1 .f32) (x1 : Vec F S256x14336 .bf16) (y : S256x14336.Idx) :
    ∃ pc ∈ (kernelRun1_A c i arg1 harg1 arg2 harg2 arg3 harg3 x0 x1).1, y ∈ pc.1.set :=
  View.cover_of_tiledL (kernelRun1_A c i arg1 harg1 arg2 harg2 arg3 harg3 x0 x1).1 S256x14336.size (by sl_kernel_rfl) y

/-- What the body leaves in the output window. -/
def out1_A_2 (c : Dev nD) (i : grid1.Coords) (arg1 : Memref sig .tc .smem S1x1 .f32) (harg1 : arg1.IsWhole) (arg2 : Memref sig .tc .vmem S256x14336 .bf16) (harg2 : arg2.IsWhole) (arg3 : Memref sig .tc .vmem S256x14336 .fp8e5m2) (harg3 : arg3.IsWhole)
    (x0 : Vec F S1x1 .f32) (x1 : Vec F S256x14336 .bf16) : Vec F S256x14336 .fp8e5m2 :=
  VO1_2.read (Elt F) (VO1_2.writes (Elt F) VO1_2.junk (kernelRun1_A c i arg1 harg1 arg2 harg2 arg3 harg3 x0 x1).1)

/-- The same at point `t`. -/
def outsAt1 (c : Dev nD) (t : Fin cfg1.N) : Vec F S256x14336 .fp8e5m2 :=
  out1_A_2 c (grid1.coords t) (ms1_0 t) (hs1_0 t) (ms1_1 t) (hs1_1 t) (ms1_2 t) (hs1_2 t) (iblk1 V c 0 t) (iblk1 V c 1 t)

/-- The call's arrays and what the body leaves in each window at each point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body starts from at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- What the body ends with at point `t`. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

/-- The body takes the one to the other, at every point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold outsAt1
  unfold out1_A_2
  iintro ⟨HΦ, Ho, ⟨%d0, H0⟩, ⟨%d1, H1⟩, ⟨%d2, H2⟩⟩
  iapply ((kernelRun1_A c (grid1.coords t) _ _ _ _ _ _ (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1_A_2 c _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.KernelIdeal.Matmul.lean ====
/- The third call (the product): what its body stores, at every point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.RegionsLoop
public import Idealize.ShloMosaic.Lib.Pipeline.FrameSuffix
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the call begins
variable (V : (c : Dev nD) → (b : Ref sig .tc) → Buf (Elt F) ((c : Thread nD τ).loc b))

/-- The block of window `w`'s array at point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev VO2_5 : View sig .tc .vmem S1024x1024 .f32 := (Memref.whole cc2_stg5_0 : Memref sig .tc .vmem S1024x1024 .f32).view
abbrev ms2_0 (t : Fin cfg2.N) : Memref sig .tc .smem S1x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .smem S1x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8192x1024 .fp8e4m3 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S8192x1024 .fp8e5m2 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x1024 .f32 := win2_5.stage (cfg2.slots t 5)
abbrev hs2_5 (t : Fin cfg2.N) : (ms2_5 t).IsWhole := hstage2_5 ((cfg2.slots t 5).cast nbuf2_5)

set_option maxHeartbeats 1000000 in
/-- The body: the pieces it stores, and that it stores them. -/
noncomputable def kernelRun2_A (c : Dev nD) (i : grid2.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x1024 .fp8e5m2) (harg5 : arg5.IsWhole) (arg6 : Memref sig .tc .vmem S1024x1024 .f32) (harg6 : arg6.IsWhole) (arg7 : Memref sig .tc .vmem S1024x1024 .f32) (harg7 : arg7.IsWhole)
    (x0 : Vec F S1x1 .f32) (x1 : Vec F S1x1 .f32) (x2 : Vec F S8192x1024 .fp8e4m3) (x3 : Vec F S8192x1024 .fp8e5m2) (x4 : Vec F S1024x1024 .f32) :
    { L5 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc2_dw_matmul i arg2 harg2 arg3 harg3 arg4 harg4 arg5 harg5 arg6 harg6 arg7 harg7) K } := by
  refine ⟨?_, fun E K => ?run⟩
  case run =>
    simp only [cc2_dw_matmul_eq_skeleton]; unfold cc2_dw_matmul_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

theorem cover2_A_5 (c : Dev nD) (i : grid2.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x1024 .fp8e5m2) (harg5 : arg5.IsWhole) (arg6 : Memref sig .tc .vmem S1024x1024 .f32) (harg6 : arg6.IsWhole) (arg7 : Memref sig .tc .vmem S1024x1024 .f32) (harg7 : arg7.IsWhole)
    (x0 : Vec F S1x1 .f32) (x1 : Vec F S1x1 .f32) (x2 : Vec F S8192x1024 .fp8e4m3) (x3 : Vec F S8192x1024 .fp8e5m2) (x4 : Vec F S1024x1024 .f32) (y : S1024x1024.Idx) :
    ∃ pc ∈ (kernelRun2_A c i arg2 harg2 arg3 harg3 arg4 harg4 arg5 harg5 arg6 harg6 arg7 harg7 x0 x1 x2 x3 x4).1, y ∈ pc.1.set :=
  View.cover_of_tiledL (kernelRun2_A c i arg2 harg2 arg3 harg3 arg4 harg4 arg5 harg5 arg6 harg6 arg7 harg7 x0 x1 x2 x3 x4).1 S1024x1024.size (by sl_kernel_rfl) y

/-- What the body leaves in the output window. -/
def out2_A_5 (c : Dev nD) (i : grid2.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x1024 .fp8e5m2) (harg5 : arg5.IsWhole) (arg6 : Memref sig .tc .vmem S1024x1024 .f32) (harg6 : arg6.IsWhole) (arg7 : Memref sig .tc .vmem S1024x1024 .f32) (harg7 : arg7.IsWhole)
    (x0 : Vec F S1x1 .f32) (x1 : Vec F S1x1 .f32) (x2 : Vec F S8192x1024 .fp8e4m3) (x3 : Vec F S8192x1024 .fp8e5m2) (x4 : Vec F S1024x1024 .f32) : Vec F S1024x1024 .f32 :=
  VO2_5.read (Elt F) (VO2_5.writes (Elt F) VO2_5.junk (kernelRun2_A c i arg2 harg2 arg3 harg3 arg4 harg4 arg5 harg5 arg6 harg6 arg7 harg7 x0 x1 x2 x3 x4).1)

/-- The same at point `t`. -/
def outsAt2 (c : Dev nD) (t : Fin cfg2.N) : Vec F S1024x1024 .f32 :=
  out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (iblk2 V c 0 t) (iblk2 V c 1 t) (iblk2 V c 2 t) (iblk2 V c 3 t) (iblk2 V c 4 t)

/-- The call's arrays and what the body leaves in each window at each point. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body starts from at point `t`. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- What the body ends with at point `t`. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

/-- The body takes the one to the other, at every point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  unfold outsAt2
  unfold out2_A_5
  iintro ⟨HΦ, Ho, ⟨%d0, H0⟩, ⟨%d1, H1⟩, ⟨%d2, H2⟩, ⟨%d3, H3⟩, ⟨%d4, H4⟩, ⟨%d5, H5⟩⟩
  iapply ((kernelRun2_A c (grid2.coords t) _ _ _ _ _ _ _ _ _ _ _ _ (iblk2 V c 0 t) (iblk2 V c 1 t) (iblk2 V c 2 t) (iblk2 V c 3 t) (iblk2 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover2_A_5 c _ _ _ _ _ _ _ _ _ _ _ _ _ _ _ _ _ _)

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Run

end
-- ==== Proof.KernelIdeal.Main.lean ====
/- The three calls and the host operations between them, put together: the whole run and the frame. -/
module

public import proofs.«01_k».proof.Proof.KernelIdeal.Amax
public import proofs.«01_k».proof.Proof.KernelIdeal.Quantise
public import proofs.«01_k».proof.Proof.KernelIdeal.Matmul
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's arguments. -/
abbrev argRefs : List (Ref sig .tc) := [main_arg0, main_arg1, main_arg2, main_arg3]

theorem hostOps0_fresh : (hostOps0 : List (HloOp τ sig (Elt F))).Forall fun op => op.fresh = ∅ := by
  simp only [List.Forall]; repeat' constructor
/-- The buffers the host operations before call 0 write. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
/-- The buffers the host operations before call 1 write. -/
abbrev hostOps1_W : List (Ref sig .tc) := [main_v3, main_v4]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
/-- The buffers the host operations before call 2 write. -/
abbrev hostOps2_W : List (Ref sig .tc) := [main_v6]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

/-- The buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

/-- The buffers when call 0 begins. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- The buffers when call 0 is over: its arrays as it leaves them, the others as they were. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- What is none of the call's outputs stays as it was. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers when call 1 begins. -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- The buffers when call 1 is over: its arrays as it leaves them, the others as they were. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- What is none of the call's outputs stays as it was. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The buffers when call 2 begins. -/
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
abbrev V5 : (c : Dev nD) → (b : Ref sig .tc) → Buf (Elt F) ((c : Thread nD τ).loc b) := fun c b => W5 m ρ c b
/-- The buffers when call 2 is over: its arrays as it leaves them, the others as they were. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- What is none of the call's outputs stays as it was. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What goes along beside the buffers: the generator register, and that nothing is owed. -/
abbrev R (c : Dev nD) : sProp 𝕄 := iprop((∃ r, prngReg c r) ∗ ∃ W, owes (c : Thread nD τ) (0 : CellTallies nD τ sig Unit) W)
/-- Host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

set_option backward.isDefEq.respectTransparency.types false in
/-- Call 0 as a segment of the program: from the buffers `W1` to the buffers `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine BIBase.Entails.trans ?_ (hin0 (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of the program: from the buffers `W3` to the buffers `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment of the program: from the buffers `W5` to the buffers `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The whole run: every execution ends, each buffer at its contents in `W6`, every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- The frame: the arguments end as they were launched and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c _ (mem_uc main_arg0 (by decide))).trans (W6_args m ρ c main_arg0 (by decide)),
     (h.1 c _ (mem_uc main_arg1 (by decide))).trans (W6_args m ρ c main_arg1 (by decide)),
     (h.1 c _ (mem_uc main_arg2 (by decide))).trans (W6_args m ρ c main_arg2 (by decide)),
     (h.1 c _ (mem_uc main_arg3 (by decide))).trans (W6_args m ρ c main_arg3 (by decide))⟩, h.2⟩) (run_all m ρ)

end Cert.KernelIdeal.Run

end
-- ==== Proof.Values.Powers.lean ====
/- Powers of two, and how many of them a value reaches: the mathematics both scales rest on. -/
module

public import Idealize.ShloMosaic.PureOps.Ideal
public import Idealize.ShloMosaic.Lib.Pipeline.ValueKit

@[expose] public section

set_option maxRecDepth 16384

noncomputable section

namespace Cert.Values

open Idealize.ShloMosaic

/-- The magnitude of a value. -/
def mag (x : EReal) : EReal := max x (-x)

/-- The greatest magnitude of a whole tensor. -/
def amax (D : Fin 8192 → Fin 14336 → EReal) : EReal :=
  Finset.univ.sup fun x : Fin 8192 × Fin 14336 => mag (D x.1 x.2)

theorem mag_le_amax (D : Fin 8192 → Fin 14336 → EReal) (r : Fin 8192) (j : Fin 14336) : mag (D r j) ≤ amax D :=
  Finset.le_sup (f := fun x : Fin 8192 × Fin 14336 => mag (D x.1 x.2)) (Finset.mem_univ (r, j))

theorem f32_bot : Ideal.ofBits .f32 0xFF800000#32 = ⊥ := by simp [Ideal.ofBits, Ideal.ieee]
theorem f32_top : Ideal.ofBits .f32 0x7F800000#32 = ⊤ := by simp [Ideal.ofBits, Ideal.ieee]
theorem bf16_bot : Ideal.ofBits .bf16 0xFF80#16 = ⊥ := by simp [Ideal.ofBits, Ideal.ieee]

/-- The reciprocal of the largest code, as both programs write it. -/
def recip : EReal := Ideal.ofBits .f32 0x37924925#32

/-- The code of `d` under the inverse scale `s`: the product, clipped to the codes' range. -/
def code (d s : EReal) : EReal :=
  min (Ideal.ofBits .f32 0x47600000#32) (max (Ideal.ofBits .f32 0xC7600000#32) (d * s))

/-- Entry `k` of the table of powers: 2 to the `k - 126`. -/
def pw (k : ℕ) : EReal := (((2 : ℝ) ^ ((k : ℤ) - 126) : ℝ) : EReal)

theorem pw_lt {j k : ℕ} (h : j < k) : pw j < pw k := by
  unfold pw
  rw [EReal.coe_lt_coe_iff]
  exact zpow_lt_zpow_right₀ (by norm_num) (by omega)

theorem pw_le {j k : ℕ} (h : j ≤ k) : pw j ≤ pw k := by
  rcases Nat.lt_or_eq_of_le h with h | rfl
  · exact (pw_lt h).le
  · exact le_rfl

theorem pw_126 : pw 126 = 1 := by simp [pw]

theorem pw_pos (k : ℕ) : 0 < pw k := by
  unfold pw; rw [← EReal.coe_zero, EReal.coe_lt_coe_iff]; positivity

/-- The inverse of an entry is the entry mirrored at 2 to the 0. -/
theorem one_div_pw {n : ℕ} (h : n ≤ 252) : Ideal.div 1 (pw n) = pw (252 - n) := by
  unfold Ideal.div
  rw [if_neg (pw_pos n).ne', one_mul]
  unfold pw
  rw [← EReal.coe_inv, ← zpow_neg]
  congr 3
  omega

/-- A downward closed set of numbers below a bound is an initial segment. -/
theorem filter_range_eq (P : ℕ → Prop) [DecidablePred P] (hP : ∀ k, P (k + 1) → P k) (N : ℕ) :
    (Finset.range N).filter P = Finset.range ((Finset.range N).filter P).card := by
  induction N with
  | zero => simp
  | succ N ih =>
    by_cases h : P N
    · have hall : ∀ k, k ≤ N → P k := by
        intro k hk
        induction hk using Nat.decreasingInduction with
        | self => exact h
        | of_succ k _ ih => exact hP k ih
      rw [Finset.filter_true_of_mem (fun k hk => hall k (by rw [Finset.mem_range] at hk; omega)), Finset.card_range]
    · rw [Finset.range_add_one, Finset.filter_insert, if_neg h]
      exact ih

open Classical in
/-- How many of the entries 0 to 251 the value `x` reaches. -/
def cnt (x : EReal) : ℕ := ((Finset.range 252).filter fun k => pw k ≤ x).card

theorem cnt_le (x : EReal) : cnt x ≤ 252 := by
  classical
  unfold cnt
  exact (Finset.card_filter_le _ _).trans (by simp)

/-- The entries reached are those before the count. -/
theorem lt_cnt_iff (x : EReal) {k : ℕ} (hk : k < 252) : k < cnt x ↔ pw k ≤ x := by
  classical
  have h := filter_range_eq (fun k => pw k ≤ x) (fun k h => (pw_lt (Nat.lt_succ_self k)).le.trans h) 252
  have h2 := Finset.ext_iff.mp h k
  simp only [Finset.mem_filter, Finset.mem_range, hk, true_and] at h2
  unfold cnt
  exact h2.symm

/-- The least entry above `x`, the last one if there is none, is the entry at the count. -/
theorem inf_above (x : EReal) :
    (Finset.univ : Finset (Fin 253)).inf (fun k => if x < pw k.val then pw k.val else pw 252) = pw (cnt x) := by
  apply le_antisymm
  · refine (Finset.inf_le (Finset.mem_univ ⟨cnt x, by have := cnt_le x; omega⟩)).trans ?_
    dsimp only
    split
    · exact le_rfl
    · rename_i h
      refine pw_le (j := 252) ?_
      by_contra h3
      have h4 : cnt x < 252 := by omega
      have h5 := (lt_cnt_iff x h4).mpr (not_lt.mp h)
      omega
  · refine Finset.le_inf fun k _ => ?_
    split
    · rename_i h
      refine pw_le ?_
      by_contra h3
      have hk : k.val < 252 := by have := cnt_le x; omega
      exact absurd ((lt_cnt_iff x hk).mp (by omega)) (not_le.mpr h)
    · exact pw_le (cnt_le x)

/-- The pattern with exponent field `q` and nothing else is 2 to the `q - 127`. -/
theorem ofBits_shl (q : ℕ) (h1 : 1 ≤ q) (h2 : q ≤ 253) :
    Ideal.ofBits .f32 (BitVec.ofNat 32 q <<< (23 : ℕ)) = pw (q - 1) := by
  have key : ∀ q : Fin 255, ((BitVec.ofNat 32 q.val <<< (23 : ℕ)).extractLsb' 31 1 == 1#1) = false
      ∧ ((BitVec.ofNat 32 q.val <<< (23 : ℕ)).extractLsb' 23 8).toNat = q.val
      ∧ ((BitVec.ofNat 32 q.val <<< (23 : ℕ)).extractLsb' 0 23).toNat = 0 := by decide +kernel
  obtain ⟨k1, k2, k3⟩ := key ⟨q, by omega⟩
  dsimp only at k1 k2 k3
  unfold Ideal.ofBits Ideal.ieee
  dsimp only
  simp only [k1, k2, k3]
  rw [if_neg (by omega), if_neg (by omega)]
  unfold pw
  rw [EReal.coe_eq_coe_iff]
  simp only [Bool.false_eq_true, if_false, one_mul, Nat.add_zero, Nat.cast_pow, Nat.cast_ofNat]
  rw [← zpow_natCast, ← zpow_add₀ (by norm_num)]
  refine congrArg (fun z : ℤ => (2 : ℝ) ^ z) ?_
  rw [Nat.cast_sub h1]
  push_cast
  ring

/-- The scale of a tensor whose greatest magnitude is `a`, the cut `x` being `a` over the largest code. -/
def scl (a x : EReal) : EReal := by
  classical exact if a = 0 then 1 else pw (cnt x)

/-- The inverse of the scale. -/
def inv (a x : EReal) : EReal := by
  classical exact if a = 0 then 1 else pw (252 - cnt x)

theorem one_div_scl (a x : EReal) : Ideal.div 1 (scl a x) = inv a x := by
  unfold scl inv
  split
  · have h := one_div_pw (n := 126) (by omega)
    rw [pw_126] at h
    rw [h, ← pw_126]
  · exact one_div_pw (cnt_le x)

end Cert.Values

end
-- ==== Proof.Values.Scale.lean ====
/- What the first call's last point computes from the column maxima, at each element. -/
module

public import proofs.«01_k».proof.Proof.Gen.KernelIdeal.Skeleton
public import proofs.«01_k».proof.Proof.Values.Powers
public import Idealize.ShloMosaic.Lib.WordSum

@[expose] public section

set_option maxRecDepth 16384

noncomputable section

namespace Cert.Values

open Cert.KernelIdeal Cert.KernelIdeal.Gen
open Idealize.ShloMosaic Idealize.ShloMosaic.TcCoe Idealize.SL.Sem

/-- The greatest element of the column maxima. -/
def top (v : FVec Ideal S16x14336 .bf16) : EReal := Finset.univ.sup fun x : Fin 16 × Fin 14336 => (v (ix2 x.1 x.2) : EReal)

/-- What element `(i, j)` of the block asks: is power `128 i + j` reached? -/
def asks (x : EReal) (i : Fin 8) (j : Fin 128) : BitVec 32 :=
  BitVec.setWidth 32
    (IntOp.andi
      (IntOp.cmpi CmpIPredicate.slt (IntOp.addi (IntOp.muli (BitVec.ofNat 32 i.val) 128#32) (BitVec.ofNat 32 j.val)) 252#32)
      (BitVec.ofBool (decide (Ideal.ofBits FTy.f32
        (IntOp.shli ArithUnit.vector (IntOp.addi (IntOp.subi (IntOp.minsi
          (IntOp.addi (IntOp.muli (BitVec.ofNat 32 i.val) 128#32) (BitVec.ofNat 32 j.val)) 251#32) 126#32) 127#32) 23#32) ≤ x))))

theorem asks_words : ∀ (i : Fin 8) (j : Fin 128),
    IntOp.cmpi CmpIPredicate.slt (IntOp.addi (IntOp.muli (BitVec.ofNat 32 i.val) 128#32) (BitVec.ofNat 32 j.val)) 252#32
        = BitVec.ofBool (decide (128 * i.val + j.val < 252))
      ∧ (128 * i.val + j.val < 252 →
          IntOp.shli ArithUnit.vector (IntOp.addi (IntOp.subi (IntOp.minsi
            (IntOp.addi (IntOp.muli (BitVec.ofNat 32 i.val) 128#32) (BitVec.ofNat 32 j.val)) 251#32) 126#32) 127#32) 23#32
          = BitVec.ofNat 32 (128 * i.val + j.val + 1) <<< (23 : ℕ)) := by decide +kernel

open Classical in
theorem toNat_asks (x : EReal) (i : Fin 8) (j : Fin 128) :
    (asks x i j).toNat = if 128 * i.val + j.val < 252 ∧ pw (128 * i.val + j.val) ≤ x then 1 else 0 := by
  obtain ⟨h1, h2⟩ := asks_words i j
  unfold asks
  rw [h1]
  by_cases h : 128 * i.val + j.val < 252
  · rw [h2 h, ofBits_shl _ (by omega) (by omega), Nat.add_sub_cancel]
    by_cases hp : pw (128 * i.val + j.val) ≤ x
    · simp only [h, hp, decide_true, and_self, if_true]; rfl
    · simp only [h, hp, decide_true, decide_false, and_false, if_false]; rfl
  · simp only [h, decide_false, false_and, if_false]
    cases decide (Ideal.ofBits FTy.f32 _ ≤ x) <;> rfl

theorem fold_addi {ι : Type} (s : Finset ι) (f : ι → BitVec 32) : s.fold IntOp.addi 0#32 f = ∑ i ∈ s, f i := by
  classical
  induction s using Finset.induction with
  | empty => rfl
  | insert a s ha ih => rw [Finset.fold_insert ha, Finset.sum_insert ha, ih]; rfl

/-- The block's sum is the number of powers reached. -/
theorem sum_asks (x : EReal) :
    (Finset.univ : Finset (Fin 8 × Fin 128)).fold IntOp.addi 0#32 (fun k => asks x k.1 k.2) = BitVec.ofNat 32 (cnt x) := by
  classical
  have hn : ∑ k : Fin 8 × Fin 128, (asks x k.1 k.2).toNat = cnt x := by
    simp only [toNat_asks]
    rw [Fintype.sum_equiv finProdFinEquiv _ (fun k : Fin 1024 => if k.val < 252 ∧ pw k.val ≤ x then 1 else 0)
      (fun k => by simp only [finProdFinEquiv_apply_val, Nat.add_comm])]
    rw [Fin.sum_univ_eq_sum_range (fun k => if k < 252 ∧ pw k ≤ x then 1 else 0) 1024]
    unfold cnt
    rw [Finset.card_filter, ← Finset.sum_subset (Finset.range_mono (by omega : 252 ≤ 1024))
      (fun k _ hk => by rw [Finset.mem_range] at hk; rw [if_neg (by tauto)])]
    refine Finset.sum_congr rfl fun k hk => ?_
    rw [Finset.mem_range] at hk
    simp only [hk, true_and]
  have hc := cnt_le x
  refine BitVec.eq_of_toNat_eq ?_
  rw [fold_addi, WordSum.toNat_sum _ _ (by rw [hn]; omega), hn, BitVec.toNat_ofNat, Nat.mod_eq_of_lt (by omega)]

open Classical in
/-- The exponent held by each element. -/
theorem pay6_apply (v : FVec Ideal S16x14336 .bf16) (j : S8x128.Idx) :
    k0_pay6 (F := Ideal) v j = if top v = 0 then 0#32
      else IntOp.addi (Scalar.subi (BitVec.ofNat 32 (cnt (top v * recip))) 126#32) 0#32 := by
  have h := sum_asks (top v * recip)
  unfold asks at h
  rw [← h]
  unfold top recip
  pointwise [k0_pay6]
  rw [f32_bot]
  congr

theorem scale_words : ∀ n : Fin 253,
    IntOp.shli ArithUnit.vector (IntOp.addi (IntOp.addi (Scalar.subi (BitVec.ofNat 32 n.val) 126#32) 0#32) 127#32) 23#32
        = BitVec.ofNat 32 (n.val + 1) <<< (23 : ℕ)
      ∧ IntOp.shli ArithUnit.vector (IntOp.addi (IntOp.subi 0#32 (IntOp.addi (Scalar.subi (BitVec.ofNat 32 n.val) 126#32) 0#32)) 127#32) 23#32
        = BitVec.ofNat 32 (253 - n.val) <<< (23 : ℕ) := by decide +kernel

theorem zero_words : IntOp.shli ArithUnit.vector (IntOp.addi 0#32 127#32) 23#32 = BitVec.ofNat 32 127 <<< (23 : ℕ)
    ∧ IntOp.shli ArithUnit.vector (IntOp.addi (IntOp.subi 0#32 0#32) 127#32) 23#32 = BitVec.ofNat 32 127 <<< (23 : ℕ) := by
  decide +kernel

/-- The scale. -/
theorem pay4_apply (v : FVec Ideal S16x14336 .bf16) (j : S8x128.Idx) :
    k0_pay4 (F := Ideal) (k0_pay7 (F := Ideal) v) k0_pay8 j = scl (top v) (top v * recip) := by
  pointwise [k0_pay4, k0_pay7, k0_pay8]
  rw [pay6_apply]
  unfold scl
  split
  · rw [zero_words.1, ofBits_shl _ (by omega) (by omega), pw_126]
  · have hc := cnt_le (top v * recip)
    have h := (scale_words ⟨cnt (top v * recip), by omega⟩).1
    dsimp only at h
    rw [h, ofBits_shl _ (by omega) (by omega), Nat.add_sub_cancel]

/-- The inverse of the scale. -/
theorem pay5_apply (v : FVec Ideal S16x14336 .bf16) (j : S8x128.Idx) :
    k0_pay5 (F := Ideal) (k0_pay6 (F := Ideal) v) j = inv (top v) (top v * recip) := by
  pointwise [k0_pay5]
  rw [pay6_apply]
  unfold inv
  split
  · rw [zero_words.2, ofBits_shl _ (by omega) (by omega), pw_126]
  · have hc := cnt_le (top v * recip)
    have h := (scale_words ⟨cnt (top v * recip), by omega⟩).2
    dsimp only at h
    rw [h, ofBits_shl _ (by omega) (by omega)]
    exact congrArg pw (by omega)

end Cert.Values

end
-- ==== Proof.Values.Amax.lean ====
/- The first call: what its scratch and its two output arrays hold. -/
module

public import proofs.«01_k».proof.Proof.KernelIdeal.Amax
public import proofs.«01_k».proof.Proof.Values.Scale
public import Idealize.ShloMosaic.Lib.Pipeline.ValueKit

@[expose] public section

set_option maxRecDepth 16384

noncomputable section

namespace Cert.Values

open Cert.KernelIdeal Cert.KernelIdeal.Gen Cert.KernelIdeal.Run
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![0, 0] :=
  (by decide +kernel : ∀ t : Fin grid0.N, _)

theorem flush0_1 : ∀ t : Fin cfg0.N, (cfg0.win 1).flush t = true → t.val = 31 :=
  (by decide +kernel : ∀ t : Fin grid0.N, win0_1.flush t = true → t.val = 31)
theorem flush0_2 : ∀ t : Fin cfg0.N, (cfg0.win 2).flush t = true → t.val = 31 :=
  (by decide +kernel : ∀ t : Fin grid0.N, win0_2.flush t = true → t.val = 31)

/-- The scratch after the first point. -/
theorem part_zero (c : Dev nD) (t : Fin cfg0.N) (h : t.val = 0) (i : S16x14336.Idx) :
    (outsAt0 V c t.val t.isLt).2.2 i = k0_pay1 (iblk0 V c 0 t) i := by
  rw [outsAt0_A V c t (by omega) (by omega) (by omega)]
  dsimp only
  unfold sout0_A_0
  frame_out
  pointwise [k0_pay2]

/-- The scratch after a later point. -/
theorem part_succ (c : Dev nD) (t : Fin cfg0.N) (h : 1 ≤ t.val) (i : S16x14336.Idx) :
    (outsAt0 V c t.val t.isLt).2.2 i
      = max ((outsAt0 V c (t.val - 1) (by have := t.isLt; omega)).2.2 i) (k0_pay1 (iblk0 V c 0 t) i) := by
  have hN : t.val < 32 := lt_of_lt_of_eq t.isLt (show cfg0.N = 32 from N_0)
  by_cases h2 : t.val % 32 = 31
  · rw [outsAt0_C V c t (by omega) h h2]
    dsimp only
    unfold sout0_C_0
    frame_out
    pointwise [k0_pay3]
    exact congrArg (max · _) (congrFun ((Memref.isWhole_whole cc0_scratch0).read_unread _) i)
  · rw [outsAt0_B V c t (by omega) h h2]
    dsimp only
    unfold sout0_B_0
    frame_out
    pointwise [k0_pay3]
    exact congrArg (max · _) (congrFun ((Memref.isWhole_whole cc0_scratch0).read_unread _) i)

/-- The two output blocks after the last point. -/
theorem out_last (c : Dev nD) (t : Fin cfg0.N) (h : t.val = 31) :
    (outsAt0 V c t.val t.isLt).1 = k0_pay4 (F := Ideal) (k0_pay7 (F := Ideal) (outsAt0 V c t.val t.isLt).2.2) k0_pay8
      ∧ (outsAt0 V c t.val t.isLt).2.1 = k0_pay5 (F := Ideal) (k0_pay6 (F := Ideal) (outsAt0 V c t.val t.isLt).2.2) := by
  rw [outsAt0_C V c t (by omega) (by omega) (by omega)]
  dsimp only
  unfold out0_C_1 out0_C_2 sout0_C_0
  constructor
  · frame_out
  · frame_out

/-- The block's column maxima: row `a` takes every sixteenth row from `a` on. -/
theorem pay1_apply (v : FVec Ideal S256x14336 .bf16) (a : Fin 16) (j : Fin 14336) :
    k0_pay1 (F := Ideal) v (ix2 a j) = Finset.univ.sup fun k : Fin 16 =>
      mag (v (ix2 (⟨k.val * 16 + a.val, by omega⟩ : Fin 256) j)) := by
  pointwise [k0_pay1]
  rw [bf16_bot]
  rfl

/-- The block at point `t` read at row `r` is the array read at row `256 t + r`. -/
theorem iblk0_apply (c : Dev nD) (t : Fin cfg0.N) (r : Fin 256) (j : Fin 14336) :
    (iblk0 V c 0 t : FVec Ideal S256x14336 .bf16) (ix2 r j)
      = (V c main_v1 : FVec Ideal S8192x14336 .bf16)
        (ix2 (⟨t.val * 256 + r.val, by have : t.val < 32 := lt_of_lt_of_eq t.isLt (show cfg0.N = 32 from N_0); omega⟩ : Fin 8192) j) := by
  blk_ext [iblk0, idx0 t]

/-- The array the call reads, by row and column. -/
abbrev rows (c : Dev nD) (r : Fin 8192) (j : Fin 14336) : EReal := (V c main_v1 : FVec Ideal S8192x14336 .bf16) (ix2 r j)

/-- The block's maxima are among the array's magnitudes. -/
theorem pay1_le (c : Dev nD) (t : Fin cfg0.N) (a : Fin 16) (j : Fin 14336) :
    (k0_pay1 (F := Ideal) (iblk0 V c 0 t) (ix2 a j) : EReal) ≤ amax (rows V c) := by
  refine (le_of_eq (pay1_apply (iblk0 V c 0 t) a j)).trans (Finset.sup_le fun k _ => ?_)
  exact (le_of_eq (congrArg mag (iblk0_apply V c t _ j))).trans (mag_le_amax (rows V c) _ j)

/-- They reach each magnitude of the block. -/
theorem le_pay1 (c : Dev nD) (t : Fin cfg0.N) (k a : Fin 16) (j : Fin 14336) (r : Fin 8192) (hr : r.val = t.val * 256 + (k.val * 16 + a.val)) :
    mag (rows V c r j) ≤ (k0_pay1 (F := Ideal) (iblk0 V c 0 t) (ix2 a j) : EReal) := by
  refine le_trans ?_ (le_of_eq (pay1_apply (iblk0 V c 0 t) a j).symm)
  refine le_trans (le_of_eq ?_) (Finset.le_sup (Finset.mem_univ k))
  refine Eq.trans (congrArg (fun q => mag (rows V c q j)) (Fin.ext hr)) (congrArg mag (iblk0_apply V c t _ j)).symm

/-- No part exceeds the array's greatest magnitude. -/
theorem part_le (c : Dev nD) (n : ℕ) (hn : n < cfg0.N) (a : Fin 16) (j : Fin 14336) :
    ((outsAt0 V c n hn).2.2 (ix2 a j) : EReal) ≤ amax (rows V c) := by
  induction n with
  | zero => exact (le_of_eq (part_zero V c ⟨0, hn⟩ rfl _)).trans (pay1_le V c _ a j)
  | succ n ih =>
    exact (le_of_eq (part_succ V c ⟨n + 1, hn⟩ (by simp) _)).trans (max_le (ih _) (pay1_le V c _ a j))

/-- The part after point `n` reaches every magnitude of the blocks up to `n`. -/
theorem le_part (c : Dev nD) (n : ℕ) (hn : n < cfg0.N) (t : Fin cfg0.N) (ht : t.val ≤ n) (k a : Fin 16) (j : Fin 14336)
    (r : Fin 8192) (hr : r.val = t.val * 256 + (k.val * 16 + a.val)) :
    mag (rows V c r j) ≤ ((outsAt0 V c n hn).2.2 (ix2 a j) : EReal) := by
  induction n with
  | zero =>
    obtain rfl : t = ⟨0, hn⟩ := Fin.ext (by dsimp only; omega)
    exact (le_pay1 V c _ k a j r hr).trans (le_of_eq (part_zero V c ⟨0, hn⟩ rfl _).symm)
  | succ n ih =>
    refine le_trans ?_ (le_of_eq (part_succ V c ⟨n + 1, hn⟩ (by simp) _).symm)
    rcases Nat.lt_or_eq_of_le ht with h | h
    · exact (ih (by omega) (by omega)).trans (le_max_left _ _)
    · obtain rfl : t = ⟨n + 1, hn⟩ := Fin.ext h
      exact (le_pay1 V c _ k a j r hr).trans (le_max_right _ _)

/-- After the last point the scratch's greatest element is the array's greatest magnitude. -/
theorem top_part (c : Dev nD) (t : Fin cfg0.N) (h : t.val = 31) :
    top (outsAt0 V c t.val t.isLt).2.2 = amax (rows V c) := by
  apply le_antisymm
  · exact Finset.sup_le fun x _ => part_le V c _ _ _ _
  · refine Finset.sup_le fun x _ => ?_
    obtain ⟨r, j⟩ := x
    refine (le_part V c t.val t.isLt ⟨r.val / 256, lt_of_lt_of_eq (by omega) (show cfg0.N = 32 from N_0).symm⟩ (by dsimp only; omega)
      ⟨r.val % 256 / 16, by omega⟩ ⟨r.val % 16, by omega⟩ j r (by dsimp only; omega)).trans ?_
    exact Finset.le_sup (f := fun x : Fin 16 × Fin 14336 => ((outsAt0 V c t.val t.isLt).2.2 (ix2 x.1 x.2) : EReal)) (Finset.mem_univ (_, _))

/-- After the call the first output array holds the scale. -/
theorem scale_arr (c : Dev nD) :
    (dat0 V c).arrAt 1 cfg0.N = fun _ => scl (amax (rows V c)) (amax (rows V c) * recip) := by
  refine (dat0 V c).arrAt_eq_of_covers 1 _ (by decide +kernel) fun t hf y => ?_
  have h := flush0_1 t hf
  blk_simp
  rw [after0_1, (out_last V c t h).1, ← top_part V c t h]
  exact pay4_apply _ _

/-- After the call the second output array holds the scale's inverse. -/
theorem inv_arr (c : Dev nD) :
    (dat0 V c).arrAt 2 cfg0.N = fun _ => inv (amax (rows V c)) (amax (rows V c) * recip) := by
  refine (dat0 V c).arrAt_eq_of_covers 2 _ (by decide +kernel) fun t hf y => ?_
  have h := flush0_2 t hf
  blk_simp
  rw [after0_2, (out_last V c t h).2, ← top_part V c t h]
  exact pay5_apply _ _

end Cert.Values

end
-- ==== Proof.Values.Quantise.lean ====
/- The second call: the array of codes, element by element. -/
module

public import proofs.«01_k».proof.Proof.KernelIdeal.Quantise
public import proofs.«01_k».proof.Proof.Values.Powers
public import Idealize.ShloMosaic.Lib.Pipeline.ValueKit

@[expose] public section

set_option maxRecDepth 16384

noncomputable section

namespace Cert.Values

open Cert.KernelIdeal Cert.KernelIdeal.Gen Cert.KernelIdeal.Run
open Idealize.ShloMosaic Idealize.ShloMosaic.TcCoe Idealize.SL.Sem
open Idealize.ShloMosaic.Pipeline (Dat)

/-- The codes of a whole array. -/
def codes (D : FVec Ideal S8192x14336 .bf16) (s : EReal) : FVec Ideal S8192x14336 .fp8e5m2 := fun i => code (D i) s

variable (V : (c : Dev nD) → (b : Ref sig .tc) → Buf (Elt Ideal) ((c : Thread nD τ).loc b))

/-- Which block each window takes at each point. -/
theorem idx1 : ∀ t : Fin cfg1.N, win1_0.index t = ![0, 0] ∧ win1_1.index t = ![t.val, 0] ∧ win1_2.index t = ![t.val, 0] :=
  (by decide +kernel : ∀ t : Fin grid1.N, _)

/-- After the call the output array holds the codes. -/
theorem codes_arr (c : Dev nD) : (dat1 V c).arrAt 2 cfg1.N = codes (V c main_v1) (V c main_v4 (ix2 0 0)) := by
  refine (dat1 V c).arrAt_eq_of_covers 2 _ (by decide +kernel) fun t _ y => ?_
  blk_simp
  rw [after1_2]
  unfold outsAt1 out1_A_2
  frame_out
  pointwise [k1_pay1, codes, code]
  blk_point [iblk1, idx1 t]

end Cert.Values

end
-- ==== Proof.Values.Matmul.lean ====
/- The third call: the array of the products, element by element. -/
module

public import proofs.«01_k».proof.Proof.KernelIdeal.Matmul
public import Idealize.ShloMosaic.Lib.Pipeline.ValueKit

@[expose] public section

set_option maxRecDepth 16384

noncomputable section

namespace Cert.Values

open Cert.KernelIdeal Cert.KernelIdeal.Gen Cert.KernelIdeal.Run
open Idealize.ShloMosaic Idealize.ShloMosaic.TcCoe Idealize.SL.Sem
open Idealize.ShloMosaic.Pipeline (Dat)

/-- The whole product over all tokens, times the two scales, plus the accumulator. -/
def product (X : FVec Ideal S8192x8192 .fp8e4m3) (Q : FVec Ideal S8192x14336 .fp8e5m2) (sx sy : EReal)
    (A : FVec Ideal S8192x14336 .f32) : FVec Ideal S8192x14336 .f32 := fun i =>
  ((∑ k : Fin 8192, (X (ix2 k (i 0)) : EReal) * Q (ix2 k (i 1))) * (sx * sy) + A i : EReal)

variable (V : (c : Dev nD) → (b : Ref sig .tc) → Buf (Elt Ideal) ((c : Thread nD τ).loc b))

/-- Which block each window takes at each point. -/
theorem idx2 : ∀ t : Fin cfg2.N, win2_0.index t = ![0, 0] ∧ win2_1.index t = ![0, 0]
    ∧ win2_2.index t = ![0, (grid2.coords t 0).val] ∧ win2_3.index t = ![0, (grid2.coords t 1).val]
    ∧ win2_4.index t = ![(grid2.coords t 0).val, (grid2.coords t 1).val]
    ∧ win2_5.index t = ![(grid2.coords t 0).val, (grid2.coords t 1).val] :=
  (by decide +kernel : ∀ t : Fin grid2.N, _)

/-- After the call the output array holds the product. -/
theorem product_arr (c : Dev nD) : (dat2 V c).arrAt 5 cfg2.N
    = product (V c main_v0) (V c main_v5) (V c main_v6 (ix2 0 0)) (V c main_v3 (ix2 0 0)) (V c main_arg3) := by
  refine (dat2 V c).arrAt_eq_of_covers 5 _ (by decide +kernel) fun t _ y => ?_
  blk_simp
  rw [after2_5]
  unfold outsAt2 out2_A_5
  frame_out
  pointwise [k2_pay1, product]
  blk_point [iblk2, idx2 t]

end Cert.Values

end
-- ==== Proof.Values.Results.lean ====
/- The kernel's three results over its arguments, through the three calls and the host operations between them. -/
module

public import proofs.«01_k».proof.Proof.KernelIdeal.Main
public import proofs.«01_k».proof.Proof.Values.Amax
public import proofs.«01_k».proof.Proof.Values.Quantise
public import proofs.«01_k».proof.Proof.Values.Matmul

@[expose] public section

set_option maxRecDepth 16384

noncomputable section

namespace Cert.Values

open Cert.KernelIdeal Cert.KernelIdeal.Gen Cert.KernelIdeal.Run
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The input codes as the kernel reads them. -/
abbrev inX (c : Dev nD) : FVec Ideal S8192x8192 .fp8e4m3 :=
  shapeCast S8192x8192 (m ((c : Thread nD τ).loc main_arg0)) shapeCasts_S1x8192x8192_S8192x8192
/-- The input scale. -/
abbrev inS (c : Dev nD) : FVec Ideal S1x1 .f32 := shapeCast S1x1 (m ((c : Thread nD τ).loc main_arg1)) shapeCasts_S_S1x1
/-- The output gradient. -/
abbrev inD (c : Dev nD) : FVec Ideal S8192x14336 .bf16 :=
  shapeCast S8192x14336 (m ((c : Thread nD τ).loc main_arg2)) shapeCasts_S1x8192x14336_S8192x14336
/-- The accumulator. -/
abbrev inA (c : Dev nD) : FVec Ideal S8192x14336 .f32 := m ((c : Thread nD τ).loc main_arg3)
/-- The greatest magnitude of the output gradient. -/
abbrev inAmax (c : Dev nD) : EReal := amax fun r j => inD m c (ix2 r j)

theorem V1_v0 (c : Dev nD) : V1 m ρ c main_v0 = inX m c := rfl
theorem V1_v1 (c : Dev nD) : V1 m ρ c main_v1 = inD m c := rfl

theorem V2_v2_0 (c : Dev nD) : V2 m ρ c main_v2_0 = fun _ => scl (inAmax m c) (inAmax m c * recip) :=
  (W2_arr m ρ c 1).trans (scale_arr (V1 m ρ) c)
theorem V2_v2_1 (c : Dev nD) : V2 m ρ c main_v2_1 = fun _ => inv (inAmax m c) (inAmax m c * recip) :=
  (W2_arr m ρ c 2).trans (inv_arr (V1 m ρ) c)

theorem V3_v3 (c : Dev nD) : V3 m ρ c main_v3 = fun _ => scl (inAmax m c) (inAmax m c * recip) := by
  have h : V3 m ρ c main_v3 = extractStridedSlice S1x1 ![0, 0] (V2 m ρ c main_v2_0) slices_S8x128_S1x1_0_0 := rfl
  rw [h, V2_v2_0]
  rfl
theorem V3_v4 (c : Dev nD) : V3 m ρ c main_v4 = fun _ => inv (inAmax m c) (inAmax m c * recip) := by
  have h : V3 m ρ c main_v4 = extractStridedSlice S1x1 ![0, 0] (V2 m ρ c main_v2_1) slices_S8x128_S1x1_0_0 := rfl
  rw [h, V2_v2_1]
  rfl
theorem V3_v1 (c : Dev nD) : V3 m ρ c main_v1 = inD m c :=
  (W3_of m ρ c main_v1 (by decide)).trans ((W2_of m ρ c main_v1 (by decide +kernel)).trans (V1_v1 m ρ c))

/-- The codes: every element under the inverse scale. -/
abbrev outQ (c : Dev nD) : FVec Ideal S8192x14336 .fp8e5m2 := codes (inD m c) (inv (inAmax m c) (inAmax m c * recip))

theorem V4_v5 (c : Dev nD) : V4 m ρ c main_v5 = outQ m c := by
  refine (W4_arr m ρ c 2).trans ((codes_arr (V3 m ρ) c).trans ?_)
  rw [V3_v1, V3_v4]

theorem V5_v5 (c : Dev nD) : V5 m ρ c main_v5 = outQ m c :=
  (W5_of m ρ c main_v5 (by decide)).trans (V4_v5 m ρ c)
theorem V5_v3 (c : Dev nD) : V5 m ρ c main_v3 = fun _ => scl (inAmax m c) (inAmax m c * recip) :=
  (W5_of m ρ c main_v3 (by decide)).trans ((W4_of m ρ c main_v3 (by decide +kernel)).trans (V3_v3 m ρ c))
theorem V5_v0 (c : Dev nD) : V5 m ρ c main_v0 = inX m c :=
  (W5_of m ρ c main_v0 (by decide)).trans ((W4_of m ρ c main_v0 (by decide +kernel)).trans
    ((W3_of m ρ c main_v0 (by decide)).trans ((W2_of m ρ c main_v0 (by decide +kernel)).trans (V1_v0 m ρ c))))
theorem V5_v6 (c : Dev nD) : V5 m ρ c main_v6 = inS m c := by
  have h : V5 m ρ c main_v6 = shapeCast S1x1 (V4 m ρ c main_arg1) shapeCasts_S_S1x1 := rfl
  rw [h]
  exact congrArg (fun x => shapeCast S1x1 x shapeCasts_S_S1x1) (W4_args m ρ c main_arg1 (by decide))
theorem V5_arg3 (c : Dev nD) : V5 m ρ c main_arg3 = inA m c := W5_args m ρ c main_arg3 (by decide)

/-- The first result: the product of the input codes and the codes, rescaled, plus the accumulator. -/
theorem result_dw (c : Dev nD) : W6 m ρ c (Proc.devRef .tc main_v7)
    = product (inX m c) (outQ m c) (inS m c (ix2 0 0)) (scl (inAmax m c) (inAmax m c * recip)) (inA m c) := by
  refine (W6_arr m ρ c 5).trans ((product_arr (V5 m ρ) c).trans ?_)
  rw [V5_v0, V5_v5, V5_v6, V5_v3, V5_arg3]

/-- The second result: the codes. -/
theorem result_codes (c : Dev nD) : W6 m ρ c (Proc.devRef .tc main_v5) = outQ m c :=
  (W6_of m ρ c main_v5 (by decide +kernel)).trans (V5_v5 m ρ c)

/-- The third result: the scale. -/
theorem result_scale (c : Dev nD) : W6 m ρ c (Proc.devRef .tc main_v3) = fun _ => scl (inAmax m c) (inAmax m c * recip) :=
  (W6_of m ρ c main_v3 (by decide +kernel)).trans (V5_v3 m ρ c)

end Cert.Values

end
-- ==== Proof.Values.Reference.lean ====
/- What the reference's three result arrays hold: the body's payloads over the argument arrays. -/
module

public import proofs.«01_k».proof.Proof.Gen.ReferenceIdeal.Value
public import Idealize.ShloMosaic.Lib.Pipeline.ValueKit
public import Idealize.ShloMosaic.Lib.Claim

@[expose] public section

set_option maxRecDepth 16384

noncomputable section

namespace Cert.Values

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ)

theorem ref_idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

theorem ref_whole (c : Dev nD) : iblk m c 0 t0_0 = V m c main_v0 ∧ iblk m c 1 t0_0 = V m c main_v1
    ∧ iblk m c 2 t0_0 = V m c main_v2 ∧ iblk m c 3 t0_0 = V m c main_arg3 := by
  refine ⟨?_, ?_, ?_, ?_⟩ <;> blk_ext! [iblk, ref_idx t0_0]

theorem ref_scale (c : Dev nD) : (dats m 0 c).arrAt 6 cfg0.N = k0_pay3 (V m c main_v2) := by
  refine (dats m 0 c).arrAt_eq_of_after_last 6 t0_0 (by decide +kernel) _ fun j => ?_
  blk_simp
  rw [after0_6]
  frame_out
  obtain ⟨h0, h1, h2, h3⟩ := ref_whole m c
  simp only [h0, h1, h2, h3]

theorem ref_codes (c : Dev nD) : (dats m 0 c).arrAt 5 cfg0.N = k0_pay4 (V m c main_v2) := by
  refine (dats m 0 c).arrAt_eq_of_after_last 5 t0_0 (by decide +kernel) _ fun j => ?_
  blk_simp
  rw [after0_5]
  frame_out
  obtain ⟨h0, h1, h2, h3⟩ := ref_whole m c
  simp only [h0, h1, h2, h3]

theorem ref_product (c : Dev nD) : (dats m 0 c).arrAt 4 cfg0.N
    = k0_pay1 (k0_pay5 (V m c main_v2) (V m c main_v0) (V m c main_v1)) (V m c main_arg3) := by
  refine (dats m 0 c).arrAt_eq_of_after_last 4 t0_0 (by decide +kernel) _ fun j => ?_
  blk_simp
  rw [after0_4]
  frame_out
  obtain ⟨h0, h1, h2, h3⟩ := ref_whole m c
  simp only [h0, h1, h2, h3]

end Cert.Values

end
-- ==== Proof.Values.ReferenceScale.lean ====
/- What the reference's payloads are, element by element. -/
module

public import proofs.«01_k».proof.Proof.Gen.ReferenceIdeal.Skeleton
public import proofs.«01_k».proof.Proof.Values.Powers

@[expose] public section

set_option maxRecDepth 16384

noncomputable section

namespace Cert.Values

open Cert.ReferenceIdeal Cert.ReferenceIdeal.Gen
open Idealize.ShloMosaic Idealize.ShloMosaic.TcCoe Idealize.SL.Sem

theorem sixty : Ideal.ofBits .f32 0x42FC0000#32 = ((126 : ℝ) : EReal) := by
  simp [Ideal.ofBits, Ideal.ieee, -EReal.coe_mul]; norm_num

theorem last_power : Ideal.ofBits .f32 0x7E800000#32 = pw 252 := ofBits_shl 253 (by omega) (by omega)

/-- Entry `k` of the reference's table. -/
theorem table (k : Fin 253) :
    (FloatOps.exp2 (FloatOps.sitofp (F := Ideal) FTy.f32 (BitVec.ofNat 32 k.val) - Ideal.ofBits FTy.f32 0x42FC0000#32 : Ideal .f32) : EReal)
      = pw k.val := by
  have h : (BitVec.ofNat 32 k.val).toInt = (k.val : ℤ) :=
    (by decide +kernel : ∀ k : Fin 253, (BitVec.ofNat 32 k.val).toInt = (k.val : ℤ)) k
  rw [sixty]
  show Ideal.exp2 ((((BitVec.ofNat 32 k.val).toInt : ℝ) : EReal) - ((126 : ℝ) : EReal)) = _
  rw [h, ← EReal.coe_sub, Ideal.exp2_coe]
  unfold pw
  congr 1
  rw [← Real.rpow_intCast]
  push_cast
  rfl

/-- The tensor by row and column. -/
abbrev refRows (D : FVec Ideal S8192x14336 .bf16) (r : Fin 8192) (j : Fin 14336) : EReal := D (ix2 r j)

/-- The reference's scale. -/
theorem ref_pay3 (D : FVec Ideal S8192x14336 .bf16) (j : S1x1.Idx) :
    k0_pay3 (F := Ideal) D j = scl (amax (refRows D)) (amax (refRows D) * recip) := by
  pointwise [k0_pay3, k0_pay2]
  rw [f32_bot, f32_top, last_power]
  simp only [table]
  have ha : (Finset.fold max ⊥ (fun x : Fin 8192 × Fin 14336 => (FloatOps.absf (F := Ideal) (φ := .f32) (D (ix2 x.1 x.2)) : EReal)) Finset.univ : EReal)
      = amax (refRows D) := rfl
  rw [ha]
  unfold scl
  split
  · rfl
  · exact inf_above _

theorem ref_pay2 (D : FVec Ideal S8192x14336 .bf16) (j : S8192x14336.Idx) : k0_pay2 (F := Ideal) D j = D j := by
  pointwise [k0_pay2]

/-- A tensor times the inverse of one number. -/
theorem mul_one_div (D : FVec Ideal S8192x14336 .f32) (T : FVec Ideal S1x1 .f32) (j : S8192x14336.Idx) :
    mulf D (broadcastTo S8192x14336 (divf (broadcast S1x1 (Scalar.ofBits (F := Ideal) .f32 0x3F800000#32)) T) broadcasts_S1x1_S8192x14336) j
      = (D j * (Ideal.div 1 (T (ix2 0 0))) : EReal) := by
  pointwise

/-- The reference's codes. -/
theorem ref_pay4 (D : FVec Ideal S8192x14336 .bf16) (j : S8192x14336.Idx) :
    k0_pay4 (F := Ideal) D j = code (D j) (inv (amax (refRows D)) (amax (refRows D) * recip)) := by
  have e := ref_pay2 D j
  rw [← one_div_scl, ← ref_pay3 D (ix2 0 0), ← e]
  unfold code
  rw [← mul_one_div]
  rfl

/-- The reference's product. -/
theorem ref_pay5 (D : FVec Ideal S8192x14336 .bf16) (X : FVec Ideal S8192x8192 .fp8e4m3) (s : FVec Ideal S1x1 .f32)
   (A : FVec Ideal S8192x14336 .f32) (j : S8192x14336.Idx) :
    k0_pay1 (k0_pay5 (F := Ideal) D X s) A j
      = ((∑ k : Fin 8192, (X (ix2 k (j 0)) : EReal) * k0_pay4 (F := Ideal) D (ix2 k (j 1))) * (s (ix2 0 0) * k0_pay3 (F := Ideal) D (ix2 0 0)) + A j : EReal) := by
  pointwise [k0_pay1, k0_pay5]

end Cert.Values

end
-- ==== Proof.Values.Equation.lean ====
/- The equation: from equal arguments the reference's three results are the kernel's. -/
module

public import proofs.«01_k».proof.Defs
public import proofs.«01_k».proof.Proof.Values.Results
public import proofs.«01_k».proof.Proof.Values.Reference
public import proofs.«01_k».proof.Proof.Values.ReferenceScale

@[expose] public section

set_option maxRecDepth 16384

noncomputable section

namespace Cert.Values

open Idealize.ShloMosaic Idealize.ShloMosaic.TcCoe Idealize.SL.Sem
open Cert.KernelIdeal (S8192x14336 S8192x8192 S1x1)

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The reference's arguments are the kernel's. -/
def Same (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)

variable {m m'} {c : Dev Cert.KernelIdeal.nD}

theorem ref_v0 (h : Same m m' c) : Cert.ReferenceIdeal.Gen.V m' c Cert.ReferenceIdeal.main_v0 = inX m c :=
  congrArg (fun x => shapeCast S8192x8192 x Cert.KernelIdeal.Gen.shapeCasts_S1x8192x8192_S8192x8192) h.1
theorem ref_v1 (h : Same m m' c) : Cert.ReferenceIdeal.Gen.V m' c Cert.ReferenceIdeal.main_v1 = inS m c :=
  congrArg (fun x => shapeCast S1x1 x Cert.KernelIdeal.Gen.shapeCasts_S_S1x1) h.2.1
theorem ref_v2 (h : Same m m' c) : Cert.ReferenceIdeal.Gen.V m' c Cert.ReferenceIdeal.main_v2 = inD m c :=
  congrArg (fun x => shapeCast S8192x14336 x Cert.KernelIdeal.Gen.shapeCasts_S1x8192x14336_S8192x14336) h.2.2.1
theorem ref_arg3 (h : Same m m' c) : Cert.ReferenceIdeal.Gen.V m' c Cert.ReferenceIdeal.main_arg3 = inA m c := h.2.2.2

/-- The codes agree. -/
theorem eq_codes (h : Same m m' c) : (Cert.ReferenceIdeal.Gen.dats m' 0 c).arrAt 5 Cert.ReferenceIdeal.cfg0.N = outQ m c := by
  refine (ref_codes m' c).trans ?_
  rw [ref_v2 h]
  funext j
  exact ref_pay4 (inD m c) j

/-- The scales agree. -/
theorem eq_scale (h : Same m m' c) : (Cert.ReferenceIdeal.Gen.dats m' 0 c).arrAt 6 Cert.ReferenceIdeal.cfg0.N
    = fun _ => scl (inAmax m c) (inAmax m c * recip) := by
  refine (ref_scale m' c).trans ?_
  rw [ref_v2 h]
  funext j
  exact ref_pay3 (inD m c) j

/-- The products agree. -/
theorem eq_dw (h : Same m m' c) : (Cert.ReferenceIdeal.Gen.dats m' 0 c).arrAt 4 Cert.ReferenceIdeal.cfg0.N
    = product (inX m c) (outQ m c) (inS m c (ix2 0 0)) (scl (inAmax m c) (inAmax m c * recip)) (inA m c) := by
  refine (ref_product m' c).trans ?_
  rw [ref_v2 h, ref_v0 h, ref_v1 h, ref_arg3 h]
  funext j
  refine (ref_pay5 (inD m c) (inX m c) (inS m c) (inA m c) j).trans ?_
  have hs := ref_pay3 (inD m c) (ix2 0 0)
  have hq : Cert.ReferenceIdeal.Gen.k0_pay4 (F := Ideal) (inD m c) = outQ m c := funext fun i => ref_pay4 (inD m c) i
  rw [hs, hq]
  rfl

open Cert.KernelIdeal.Run in
/-- Both programs run and end with the same three results, their arguments unchanged. -/
theorem algebraic [hK : Cert.KernelIdeal.Facts] [hR : Cert.ReferenceIdeal.Facts] : Cert.algebraic_KernelIdeal_ReferenceIdeal := by
  intro m g m' g' _ hsame
  refine ⟨fun c => product (inX m c) (outQ m c) (inS m c (ix2 0 0)) (scl (inAmax m c) (inAmax m c * recip)) (inA m c),
    fun c => outQ m c, fun c _ => scl (inAmax m c) (inAmax m c * recip), ?_, ?_⟩
  · refine (θ_run Cert.KernelIdeal.defs _ _).mono (fun r h c => ?_) (run_all m g)
    exact ⟨(h.1 c _ (mem_uc Cert.KernelIdeal.main_v7 (by decide))).trans (result_dw m g c),
      (h.1 c _ (mem_uc Cert.KernelIdeal.main_v5 (by decide))).trans (result_codes m g c),
      (h.1 c _ (mem_uc Cert.KernelIdeal.main_v3 (by decide))).trans (result_scale m g c),
      (h.1 c _ (mem_uc Cert.KernelIdeal.main_arg0 (by decide))).trans (W6_args m g c _ (by decide)),
      (h.1 c _ (mem_uc Cert.KernelIdeal.main_arg1 (by decide))).trans (W6_args m g c _ (by decide)),
      (h.1 c _ (mem_uc Cert.KernelIdeal.main_arg2 (by decide))).trans (W6_args m g c _ (by decide)),
      (h.1 c _ (mem_uc Cert.KernelIdeal.main_arg3 (by decide))).trans (W6_args m g c _ (by decide))⟩
  · refine (θ_run Cert.ReferenceIdeal.defs _ _).mono (fun r h c => ?_) (Cert.ReferenceIdeal.Value.run_blocks m' g')
    obtain ⟨h0, h1, h2, hargs⟩ := h c
    exact ⟨h0.trans (eq_dw (hsame c)), h1.trans (eq_codes (hsame c)), h2.trans (eq_scale (hsame c)), hargs⟩

end Cert.Values

end
-- ==== Proof.lean ====
/- The certificate: the frames of the three programs, and that the kernel and the reference compute the same results. -/
module

public import proofs.«01_k».proof.Defs
public import proofs.«01_k».proof.Proof.Kernel.Main
public import proofs.«01_k».proof.Proof.KernelIdeal.Main
public import proofs.«01_k».proof.Proof.Gen.ReferenceIdeal.Frame
public import proofs.«01_k».proof.Proof.Values.Equation
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ,
  fun m ρ _ => Cert.ReferenceIdeal.Gen.frame m ρ, trivial, Cert.Values.algebraic⟩

end Cert.Proof

end
